-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_few_near [hPre_few_near : Cert.Pre_few_near.Facts] (m : (ℓ : Loc Cert.KernelIdeal.nD Cert.KernelIdeal.τ Cert.KernelIdeal.sig) → Buf (Elt Ideal) ℓ) : Prop :=
  ∀ c : Dev Cert.KernelIdeal.nD,
    (Cert.Pre_few_near.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_few_near [hPre_few_near : Cert.Pre_few_near.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_few_near.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_few_near [hKernelIdeal : Cert.KernelIdeal.Facts] [hPre_few_near : Cert.Pre_few_near.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_few_near m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_few_near [hReferenceIdeal : Cert.ReferenceIdeal.Facts] [hPre_few_near : Cert.Pre_few_near.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_few_near m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_settled [hKernelIdeal : Cert.KernelIdeal.Facts] [hReferenceIdeal : Cert.ReferenceIdeal.Facts] [hOn_settled : Cert.On_settled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 4096, 2048]⟩ : Shape).Idx, (Cert.On_settled.fn (F := Ideal) (m ((c.tc : Thread Cert.KernelIdeal.nD Cert.KernelIdeal.τ).loc Cert.KernelIdeal.main_arg0))) i = 1#1 → r.2.mem ((c.tc : Thread Cert.KernelIdeal.nD Cert.KernelIdeal.τ).loc Cert.KernelIdeal.main_v2) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 4096, 2048]⟩ : Shape).Idx, (Cert.On_settled.fn (F := Ideal) (m ((c.tc : Thread Cert.KernelIdeal.nD Cert.KernelIdeal.τ).loc Cert.KernelIdeal.main_arg0))) i = 1#1 → r.2.mem ((c.tc : Thread Cert.ReferenceIdeal.nD Cert.ReferenceIdeal.τ).loc Cert.ReferenceIdeal.main_v27) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def algebraic_KernelIdeal_ReferenceIdeal_pre_few_near [hKernelIdeal : Cert.KernelIdeal.Facts] [hReferenceIdeal : Cert.ReferenceIdeal.Facts] [hPre_few_near : Cert.Pre_few_near.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_few_near m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def holds_KernelIdeal_near_sparsemax [hKernelIdeal : Cert.KernelIdeal.Facts] [hPost_near_sparsemax : Cert.Post_near_sparsemax.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ (Cert.Post_near_sparsemax.fn (F := Ideal) (m ((c.tc : Thread Cert.KernelIdeal.nD Cert.KernelIdeal.τ).loc Cert.KernelIdeal.main_arg0)) (r.2.mem ((c.tc : Thread Cert.KernelIdeal.nD Cert.KernelIdeal.τ).loc Cert.KernelIdeal.main_v2))) = (fun _ => 1#1))

def holds_KernelIdeal_inf_rows [hKernelIdeal : Cert.KernelIdeal.Facts] [hPost_inf_rows : Cert.Post_inf_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ (Cert.Post_inf_rows.fn (F := Ideal) (m ((c.tc : Thread Cert.KernelIdeal.nD Cert.KernelIdeal.τ).loc Cert.KernelIdeal.main_arg0)) (r.2.mem ((c.tc : Thread Cert.KernelIdeal.nD Cert.KernelIdeal.τ).loc Cert.KernelIdeal.main_v2))) = (fun _ => 1#1))

def Claim : Prop :=
  ∃ (hKernel : Cert.Kernel.Facts) (hKernelIdeal : Cert.KernelIdeal.Facts) (hReferenceIdeal : Cert.ReferenceIdeal.Facts) (hPre_few_near : Cert.Pre_few_near.Facts) (hPost_near_sparsemax : Cert.Post_near_sparsemax.Facts) (hPost_inf_rows : Cert.Post_inf_rows.Facts) (hOn_settled : Cert.On_settled.Facts),
    quiescent_Kernel (hKernel := hKernel)
    ∧ quiescent_KernelIdeal (hKernelIdeal := hKernelIdeal)
    ∧ quiescent_KernelIdeal_pre_few_near (hKernelIdeal := hKernelIdeal) (hPre_few_near := hPre_few_near)
    ∧ quiescent_ReferenceIdeal (hReferenceIdeal := hReferenceIdeal)
    ∧ quiescent_ReferenceIdeal_pre_few_near (hReferenceIdeal := hReferenceIdeal) (hPre_few_near := hPre_few_near)
    ∧ preserves_Kernel_KernelIdeal
    ∧ algebraic_KernelIdeal_ReferenceIdeal_on_settled (hKernelIdeal := hKernelIdeal) (hReferenceIdeal := hReferenceIdeal) (hOn_settled := hOn_settled)
    ∧ algebraic_KernelIdeal_ReferenceIdeal_pre_few_near (hKernelIdeal := hKernelIdeal) (hReferenceIdeal := hReferenceIdeal) (hPre_few_near := hPre_few_near)
    ∧ holds_KernelIdeal_near_sparsemax (hKernelIdeal := hKernelIdeal) (hPost_near_sparsemax := hPost_near_sparsemax)
    ∧ holds_KernelIdeal_inf_rows (hKernelIdeal := hKernelIdeal) (hPost_inf_rows := hPost_inf_rows)
-- ==== On_settled.lean ====
abbrev S2x4096x2048 : Shape := ⟨3, ![2, 4096, 2048]⟩
abbrev S2048 : Shape := ⟨1, ![2048]⟩
abbrev S_ : Shape := ⟨0, ![]⟩
abbrev S1x1x2048 : Shape := ⟨3, ![1, 1, 2048]⟩
abbrev S2x4096 : Shape := ⟨2, ![2, 4096]⟩
abbrev S2x4096x1 : Shape := ⟨3, ![2, 4096, 1]⟩
abbrev S2x4096x1x1 : Shape := ⟨4, ![2, 4096, 1, 1]⟩
abbrev S1 : Shape := ⟨1, ![1]⟩
abbrev S1x1x1x1 : Shape := ⟨4, ![1, 1, 1, 1]⟩

class Facts : Prop where
  bcast_S_S2048 : S_.BroadcastsInDim S2048 (![] : Fin 0 → Fin S2048.rank)
  bcast_S_S_ : S_.BroadcastsInDim S_ (![] : Fin 0 → Fin S_.rank)
  reduceWindows_S2x4096x2048_S2x4096x2048_w1s1p0_0_w1s1p0_0_w2048s1p2047_0 : S2x4096x2048.ReduceWindows (![1, 1, 2048] : Fin 3 → Nat) ![1, 1, 1] ![0, 0, 2047] ![0, 0, 0] S2x4096x2048
  h_S_ : 0 < S_.numel
  bcast_S2048_S1x1x2048_2 : S2048.BroadcastsInDim S1x1x2048 (![2] : Fin 1 → Fin S1x1x2048.rank)
  bcast_S1x1x2048_S2x4096x2048_0_1_2 : S1x1x2048.BroadcastsInDim S2x4096x2048 (![0, 1, 2] : Fin 3 → Fin S2x4096x2048.rank)
  bcast_S_S2x4096x2048 : S_.BroadcastsInDim S2x4096x2048 (![] : Fin 0 → Fin S2x4096x2048.rank)
  natLt_1_32 : 1 < 32
  reducesTo_S2x4096x2048_S2x4096_d2 : S2x4096x2048.ReducesTo [2] S2x4096
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  shapeCasts_S2x4096x1_S2x4096x1x1 : S2x4096x1.ShapeCasts S2x4096x1x1
  bcast_S_S2x4096x1x1 : S_.BroadcastsInDim S2x4096x1x1 (![] : Fin 0 → Fin S2x4096x1x1.rank)
  bcast_S1_S1x1x1x1_3 : S1.BroadcastsInDim S1x1x1x1 (![3] : Fin 1 → Fin S1x1x1x1.rank)
  bcast_S1x1x1x1_S2x4096x1x1_0_1_2_3 : S1x1x1x1.BroadcastsInDim S2x4096x1x1 (![0, 1, 2, 3] : Fin 4 → Fin S2x4096x1x1.rank)
  reducesTo_S2x4096x1x1_S2x4096x1_d3 : S2x4096x1x1.ReducesTo [3] S2x4096x1
  bcast_S2x4096x1_S2x4096x2048_0_1_2 : S2x4096x1.BroadcastsInDim S2x4096x2048 (![0, 1, 2] : Fin 3 → Fin S2x4096x2048.rank)
  gather_S2x4096x2048_S2x4096x1x1_S2x4096x1_n_2_01_01_2_3_111_wf : GatherDims.WF S2x4096x2048 S2x4096x1x1 S2x4096x1 [] [2] [0, 1] [2] [0, 1] 3 ![1, 1, 1]

variable [Facts]

variable {F : FTy → Type} [FloatOps F]
def comparator_f32_d2 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9
def gather_S2x4096x2048_S2x4096x1x1_S2x4096x1_n_2_01_01_2_3_111 : GatherDims S2x4096x2048 S2x4096x1x1 S2x4096x1 where
  offsetDims := []
  collapsedSliceDims := [2]
  operandBatchingDims := [0, 1]
  startIndicesBatchingDims := [0, 1]
  startIndexMap := [2]
  indexVectorDim := 3
  sliceSizes := ![1, 1, 1]
  wf := gather_S2x4096x2048_S2x4096x1x1_S2x4096x1_n_2_01_01_2_3_111_wf

def fn_sort {F : FTy → Type} [FloatOps F] (arg0 : FVec F S2x4096x2048 .f32) : FVec F S2x4096x2048 .f32 :=
  let v0 : FVec F S2x4096x2048 .f32 := (fun x => Host.sort S2x4096x2048 2 comparator_f32_d2 x) arg0
  v0

def fn_cumsum_0 {F : FTy → Type} [FloatOps F] (arg0 : FVec F S2x4096x2048 .f32) : FVec F S2x4096x2048 .f32 :=
  let cst : FVec F S_ .f32 := constant S_ .f32 0x00000000#32
  let v0 : FVec F S_ .f32 := broadcastInDim S_ ![] bcast_S_S_ cst
  let v1 : FVec F S2x4096x2048 .f32 := (fun x v => Host.reduceWindowAdd ![1, 1, 2048] ![1, 1, 1] ![0, 0, 2047] ![0, 0, 0] x v reduceWindows_S2x4096x2048_S2x4096x2048_w1s1p0_0_w1s1p0_0_w2048s1p2047_0 h_S_) arg0 v0
  v1

def fn_cumsum {F : FTy → Type} [FloatOps F] (arg0 : FVec F S2x4096x2048 .f32) : FVec F S2x4096x2048 .f32 :=
  let v0 : FVec F S2x4096x2048 .f32 := fn_cumsum_0 (F := F) arg0
  v0

def fn_take_along_axis {F : FTy → Type} [FloatOps F] (arg0 : FVec F S2x4096x2048 .f32) (arg1 : IVec S2x4096x1 32) : FVec F S2x4096x1 .f32 :=
  let c : IVec S_ 32 := constantI S_ 32 0#32
  let v0 : IVec S2x4096x1 32 := broadcastInDim S2x4096x1 ![] bcast_S_S2x4096x1 c
  let v1 : IVec S2x4096x1 1 := cmpi .slt arg1 v0
  let c_0 : IVec S_ 32 := constantI S_ 32 2048#32
  let v2 : IVec S2x4096x1 32 := broadcastInDim S2x4096x1 ![] bcast_S_S2x4096x1 c_0
  let v3 : IVec S2x4096x1 32 := addi arg1 v2
  let v4 : IVec S2x4096x1 32 := select v1 v3 arg1
  let v5 : IVec S2x4096x1x1 32 := shapeCast S2x4096x1x1 v4 shapeCasts_S2x4096x1_S2x4096x1x1
  let c_1 : IVec S1 32 := constantI S1 32 2047#32
  let c_2 : IVec S_ 32 := constantI S_ 32 0#32
  let v6 : IVec S2x4096x1x1 32 := broadcastInDim S2x4096x1x1 ![] bcast_S_S2x4096x1x1 c_2
  let v7 : IVec S2x4096x1x1 1 := cmpi .sge v5 v6
  let v8 : IVec S1x1x1x1 32 := broadcastInDim S1x1x1x1 ![3] bcast_S1_S1x1x1x1_3 c_1
  let v9 : IVec S2x4096x1x1 32 := broadcastInDim S2x4096x1x1 ![0, 1, 2, 3] bcast_S1x1x1x1_S2x4096x1x1_0_1_2_3 v8
  let v10 : IVec S2x4096x1x1 1 := cmpi .sle v5 v9
  let v11 : IVec S2x4096x1x1 1 := andi v7 v10
  let c_3 : IVec S_ 1 := constantI S_ 1 1#1
  let v12 : IVec S2x4096x1 1 := (fun x v => Host.reduce IntOp.andi x v reducesTo_S2x4096x1x1_S2x4096x1_d3 h_S_) v11 c_3
  let v13 : FVec F S2x4096x1 .f32 := (fun x i => Host.gather gather_S2x4096x2048_S2x4096x1x1_S2x4096x1_n_2_01_01_2_3_111 x i) arg0 v5
  let cst : FVec F S_ .f32 := constant S_ .f32 0x7FC00000#32
  let v14 : FVec F S2x4096x1 .f32 := broadcastInDim S2x4096x1 ![] bcast_S_S2x4096x1 cst
  let v15 : FVec F S2x4096x1 .f32 := select v12 v13 v14
  v15

def fn_where {F : FTy → Type} [FloatOps F] (arg0 : IVec S2x4096x2048 1) (arg1 : FVec F S2x4096x2048 .f32) (arg2 : FVec F S_ .f32) : FVec F S2x4096x2048 .f32 :=
  let v0 : FVec F S_ .f32 := id arg2
  let v1 : FVec F S2x4096x2048 .f32 := broadcastInDim S2x4096x2048 ![] bcast_S_S2x4096x2048 v0
  let v2 : FVec F S2x4096x2048 .f32 := select arg0 arg1 v1
  v2

def fn_part4 {F : FTy → Type} [FloatOps F] (main_v0 : FVec F S2x4096x2048 .f32) (main_v67 : FVec F S2x4096x1 .f32) (main_v71 : IVec S2x4096x1 1) (main_v72 : IVec S2x4096x1 1) : IVec S2x4096x2048 1 :=
  let main_v73 : FVec F S2x4096x2048 .f32 := broadcastInDim S2x4096x2048 ![0, 1, 2] bcast_S2x4096x1_S2x4096x2048_0_1_2 main_v67
  let main_v74 : IVec S2x4096x2048 1 := cmpf .ole main_v0 main_v73
  let main_v75 : IVec S2x4096x2048 1 := broadcastInDim S2x4096x2048 ![0, 1, 2] bcast_S2x4096x1_S2x4096x2048_0_1_2 main_v72
  let main_v76 : IVec S2x4096x2048 1 := ori main_v75 main_v74
  let main_v77 : IVec S2x4096x2048 1 := broadcastInDim S2x4096x2048 ![0, 1, 2] bcast_S2x4096x1_S2x4096x2048_0_1_2 main_v71
  let main_v78 : IVec S2x4096x2048 1 := andi main_v77 main_v76
  main_v78

def fn_part3 {F : FTy → Type} [FloatOps F] (main_v0 : FVec F S2x4096x2048 .f32) (main_v23 : FVec F S2x4096x1 .f32) (main_v50 : FVec F S2x4096x1 .f32) (main_v53 : FVec F S2x4096x1 .f32) (main_v54 : FVec F S2x4096x1 .f32) : IVec S2x4096x2048 1 :=
  let main_v55 : FVec F S2x4096x1 .f32 := subf main_v53 main_v54
  let main_v56 : FVec F S2x4096x1 .f32 := Host.divf main_v55 main_v50
  let main_v57 : FVec F S2x4096x2048 .f32 := broadcastInDim S2x4096x2048 ![0, 1, 2] bcast_S2x4096x1_S2x4096x2048_0_1_2 main_v56
  let main_v58 : IVec S2x4096x2048 1 := cmpf .ogt main_v0 main_v57
  let main_v59 : FVec F S2x4096x2048 .f32 := uitofp .f32 main_v58
  let main_cst_15 : FVec F S_ .f32 := constant S_ .f32 0x00000000#32
  let main_v60 : FVec F S2x4096 .f32 := (fun x v => Host.reduceAdd x v reducesTo_S2x4096x2048_S2x4096_d2 h_S_) main_v59 main_cst_15
  let main_v61 : FVec F S2x4096x1 .f32 := broadcastInDim S2x4096x1 ![0, 1] bcast_S2x4096_S2x4096x1_0_1 main_v60
  let main_cst_16 : FVec F S_ .f32 := constant S_ .f32 0x00000000#32
  let main_v62 : FVec F S2x4096x2048 .f32 := fn_where (F := F) main_v58 main_v0 main_cst_16
  let main_cst_17 : FVec F S_ .f32 := constant S_ .f32 0x00000000#32
  let main_v63 : FVec F S2x4096 .f32 := (fun x v => Host.reduceAdd x v reducesTo_S2x4096x2048_S2x4096_d2 h_S_) main_v62 main_cst_17
  let main_v64 : FVec F S2x4096x1 .f32 := broadcastInDim S2x4096x1 ![0, 1] bcast_S2x4096_S2x4096x1_0_1 main_v63
  let main_cst_18 : FVec F S_ .f32 := constant S_ .f32 0x3F800000#32
  let main_v65 : FVec F S2x4096x1 .f32 := broadcastInDim S2x4096x1 ![] bcast_S_S2x4096x1 main_cst_18
  let main_v66 : FVec F S2x4096x1 .f32 := subf main_v64 main_v65
  let main_v67 : FVec F S2x4096x1 .f32 := Host.divf main_v66 main_v61
  let main_cst_19 : FVec F S_ .f32 := constant S_ .f32 0xFF800000#32
  let main_v68 : FVec F S2x4096 .f32 := (fun x v => Host.reduce FloatOps.maximumf x v reducesTo_S2x4096x2048_S2x4096_d2 h_S_) main_v0 main_cst_19
  let main_v69 : FVec F S2x4096x1 .f32 := broadcastInDim S2x4096x1 ![0, 1] bcast_S2x4096_S2x4096x1_0_1 main_v68
  let main_cst_20 : FVec F S_ .f32 := constant S_ .f32 0x7F800000#32
  let main_v70 : FVec F S2x4096x1 .f32 := broadcastInDim S2x4096x1 ![] bcast_S_S2x4096x1 main_cst_20
  let main_v71 : IVec S2x4096x1 1 := cmpf .olt main_v69 main_v70
  let main_v72 : IVec S2x4096x1 1 := cmpf .oeq main_v67 main_v23
  fn_part4 (F := F) main_v0 main_v67 main_v71 main_v72

def fn_part2 {F : FTy → Type} [FloatOps F] (main_v0 : FVec F S2x4096x2048 .f32) (main_v23 : FVec F S2x4096x1 .f32) (main_v36 : IVec S2x4096x2048 1) (main_v37 : FVec F S2x4096x2048 .f32) (main_cst_7 : FVec F S_ .f32) : IVec S2x4096x2048 1 :=
  let main_v38 : FVec F S2x4096 .f32 := (fun x v => Host.reduceAdd x v reducesTo_S2x4096x2048_S2x4096_d2 h_S_) main_v37 main_cst_7
  let main_v39 : FVec F S2x4096x1 .f32 := broadcastInDim S2x4096x1 ![0, 1] bcast_S2x4096_S2x4096x1_0_1 main_v38
  let main_cst_8 : FVec F S_ .f32 := constant S_ .f32 0x00000000#32
  let main_v40 : FVec F S2x4096x2048 .f32 := fn_where (F := F) main_v36 main_v0 main_cst_8
  let main_cst_9 : FVec F S_ .f32 := constant S_ .f32 0x00000000#32
  let main_v41 : FVec F S2x4096 .f32 := (fun x v => Host.reduceAdd x v reducesTo_S2x4096x2048_S2x4096_d2 h_S_) main_v40 main_cst_9
  let main_v42 : FVec F S2x4096x1 .f32 := broadcastInDim S2x4096x1 ![0, 1] bcast_S2x4096_S2x4096x1_0_1 main_v41
  let main_cst_10 : FVec F S_ .f32 := constant S_ .f32 0x3F800000#32
  let main_v43 : FVec F S2x4096x1 .f32 := broadcastInDim S2x4096x1 ![] bcast_S_S2x4096x1 main_cst_10
  let main_v44 : FVec F S2x4096x1 .f32 := subf main_v42 main_v43
  let main_v45 : FVec F S2x4096x1 .f32 := Host.divf main_v44 main_v39
  let main_v46 : FVec F S2x4096x2048 .f32 := broadcastInDim S2x4096x2048 ![0, 1, 2] bcast_S2x4096x1_S2x4096x2048_0_1_2 main_v45
  let main_v47 : IVec S2x4096x2048 1 := cmpf .ogt main_v0 main_v46
  let main_v48 : FVec F S2x4096x2048 .f32 := uitofp .f32 main_v47
  let main_cst_11 : FVec F S_ .f32 := constant S_ .f32 0x00000000#32
  let main_v49 : FVec F S2x4096 .f32 := (fun x v => Host.reduceAdd x v reducesTo_S2x4096x2048_S2x4096_d2 h_S_) main_v48 main_cst_11
  let main_v50 : FVec F S2x4096x1 .f32 := broadcastInDim S2x4096x1 ![0, 1] bcast_S2x4096_S2x4096x1_0_1 main_v49
  let main_cst_12 : FVec F S_ .f32 := constant S_ .f32 0x00000000#32
  let main_v51 : FVec F S2x4096x2048 .f32 := fn_where (F := F) main_v47 main_v0 main_cst_12
  let main_cst_13 : FVec F S_ .f32 := constant S_ .f32 0x00000000#32
  let main_v52 : FVec F S2x4096 .f32 := (fun x v => Host.reduceAdd x v reducesTo_S2x4096x2048_S2x4096_d2 h_S_) main_v51 main_cst_13
  let main_v53 : FVec F S2x4096x1 .f32 := broadcastInDim S2x4096x1 ![0, 1] bcast_S2x4096_S2x4096x1_0_1 main_v52
  let main_cst_14 : FVec F S_ .f32 := constant S_ .f32 0x3F800000#32
  let main_v54 : FVec F S2x4096x1 .f32 := broadcastInDim S2x4096x1 ![] bcast_S_S2x4096x1 main_cst_14
  fn_part3 (F := F) main_v0 main_v23 main_v50 main_v53 main_v54

def fn_part1 {F : FTy → Type} [FloatOps F] (main_v0 : FVec F S2x4096x2048 .f32) (main_v16 : IVec S2x4096x1 32) (main_v19 : FVec F S2x4096x1 .f32) : IVec S2x4096x2048 1 :=
  let main_cst_2 : FVec F S_ .f32 := constant S_ .f32 0x3F800000#32
  let main_v20 : FVec F S2x4096x1 .f32 := broadcastInDim S2x4096x1 ![] bcast_S_S2x4096x1 main_cst_2
  let main_v21 : FVec F S2x4096x1 .f32 := subf main_v19 main_v20
  let main_v22 : FVec F S2x4096x1 .f32 := sitofp .f32 main_v16
  let main_v23 : FVec F S2x4096x1 .f32 := Host.divf main_v21 main_v22
  let main_cst_3 : FVec F S_ .f32 := constant S_ .f32 0xFF800000#32
  let main_v24 : FVec F S2x4096 .f32 := (fun x v => Host.reduce FloatOps.maximumf x v reducesTo_S2x4096x2048_S2x4096_d2 h_S_) main_v0 main_cst_3
  let main_v25 : FVec F S2x4096x1 .f32 := broadcastInDim S2x4096x1 ![0, 1] bcast_S2x4096_S2x4096x1_0_1 main_v24
  let main_cst_4 : FVec F S_ .f32 := constant S_ .f32 0x3F800000#32
  let main_v26 : FVec F S2x4096x1 .f32 := broadcastInDim S2x4096x1 ![] bcast_S_S2x4096x1 main_cst_4
  let main_v27 : FVec F S2x4096x1 .f32 := subf main_v25 main_v26
  let main_v28 : FVec F S2x4096x1 .f32 := subf main_v23 main_v27
  let main_cst_5 : FVec F S_ .f32 := constant S_ .f32 0x41800000#32
  let main_v29 : FVec F S2x4096x1 .f32 := broadcastInDim S2x4096x1 ![] bcast_S_S2x4096x1 main_cst_5
  let main_v30 : FVec F S2x4096x1 .f32 := mulf main_v28 main_v29
  let main_v31 : FVec F S2x4096x1 .f32 := Host.floor main_v30
  let main_cst_6 : FVec F S_ .f32 := constant S_ .f32 0x3D800000#32
  let main_v32 : FVec F S2x4096x1 .f32 := broadcastInDim S2x4096x1 ![] bcast_S_S2x4096x1 main_cst_6
  let main_v33 : FVec F S2x4096x1 .f32 := mulf main_v31 main_v32
  let main_v34 : FVec F S2x4096x1 .f32 := addf main_v27 main_v33
  let main_v35 : FVec F S2x4096x2048 .f32 := broadcastInDim S2x4096x2048 ![0, 1, 2] bcast_S2x4096x1_S2x4096x2048_0_1_2 main_v34
  let main_v36 : IVec S2x4096x2048 1 := cmpf .ogt main_v0 main_v35
  let main_v37 : FVec F S2x4096x2048 .f32 := uitofp .f32 main_v36
  let main_cst_7 : FVec F S_ .f32 := constant S_ .f32 0x00000000#32
  fn_part2 (F := F) main_v0 main_v23 main_v36 main_v37 main_cst_7

def fn {F : FTy → Type} [FloatOps F] (main_arg0 : FVec F S2x4096x2048 .f32) : IVec S2x4096x2048 1 :=
  let main_v0 : FVec F S2x4096x2048 .f32 := Host.negf main_arg0
  let main_v1 : FVec F S2x4096x2048 .f32 := Host.negf main_v0
  let main_v2 : FVec F S2x4096x2048 .f32 := fn_sort (F := F) main_v1
  let main_v3 : FVec F S2x4096x2048 .f32 := Host.negf main_v2
  let main_v4 : FVec F S2048 .f32 := sitofp .f32 (iotaInDim S2048 32 0)
  let main_cst : FVec F S_ .f32 := constant S_ .f32 0x3F800000#32
  let main_v5 : FVec F S2048 .f32 := broadcastInDim S2048 ![] bcast_S_S2048 main_cst
  let main_v6 : FVec F S2048 .f32 := addf main_v5 main_v4
  let main_v7 : FVec F S2x4096x2048 .f32 := fn_cumsum (F := F) main_v3
  let main_v8 : FVec F S1x1x2048 .f32 := broadcastInDim S1x1x2048 ![2] bcast_S2048_S1x1x2048_2 main_v6
  let main_v9 : FVec F S2x4096x2048 .f32 := broadcastInDim S2x4096x2048 ![0, 1, 2] bcast_S1x1x2048_S2x4096x2048_0_1_2 main_v8
  let main_v10 : FVec F S2x4096x2048 .f32 := mulf main_v9 main_v3
  let main_cst_0 : FVec F S_ .f32 := constant S_ .f32 0x3F800000#32
  let main_v11 : FVec F S2x4096x2048 .f32 := broadcastInDim S2x4096x2048 ![] bcast_S_S2x4096x2048 main_cst_0
  let main_v12 : FVec F S2x4096x2048 .f32 := addf main_v11 main_v10
  let main_v13 : IVec S2x4096x2048 1 := cmpf .ogt main_v12 main_v7
  let main_v14 : IVec S2x4096x2048 32 := (extui 32 · natLt_1_32) main_v13
  let main_c : IVec S_ 32 := constantI S_ 32 0#32
  let main_v15 : IVec S2x4096 32 := (fun x v => Host.reduce IntOp.addi x v reducesTo_S2x4096x2048_S2x4096_d2 h_S_) main_v14 main_c
  let main_v16 : IVec S2x4096x1 32 := broadcastInDim S2x4096x1 ![0, 1] bcast_S2x4096_S2x4096x1_0_1 main_v15
  let main_c_1 : IVec S_ 32 := constantI S_ 32 1#32
  let main_v17 : IVec S2x4096x1 32 := broadcastInDim S2x4096x1 ![] bcast_S_S2x4096x1 main_c_1
  let main_v18 : IVec S2x4096x1 32 := subi main_v16 main_v17
  let main_v19 : FVec F S2x4096x1 .f32 := fn_take_along_axis (F := F) main_v7 main_v18
  fn_part1 (F := F) main_v0 main_v16 main_v19
-- ==== Post_inf_rows.lean ====
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩

class Facts : Prop where
  reducesTo_S2x4096x2048_S2x4096_d2 : S2x4096x2048.ReducesTo [2] S2x4096
  h_S_ : 0 < S_.numel
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  bcast_S_S2x4096x2048 : S_.BroadcastsInDim S2x4096x2048 (![] : Fin 0 → Fin S2x4096x2048.rank)
  bcast_S2x4096x1_S2x4096x2048_0_1_2 : S2x4096x1.BroadcastsInDim S2x4096x2048 (![0, 1, 2] : Fin 3 → Fin S2x4096x2048.rank)

variable [Facts]

def fn {F : FTy → Type} [FloatOps F] (main_arg0 : FVec F S2x4096x2048 .f32) (main_arg1 : FVec F S2x4096x2048 .f32) : IVec S2x4096x2048 1 :=
  let main_v0 : FVec F S2x4096x2048 .f32 := Host.negf main_arg0
  let main_cst : FVec F S_ .f32 := constant S_ .f32 0xFF800000#32
  let main_v1 : FVec F S2x4096 .f32 := (fun x v => Host.reduce FloatOps.maximumf x v reducesTo_S2x4096x2048_S2x4096_d2 h_S_) main_v0 main_cst
  let main_v2 : FVec F S2x4096x1 .f32 := broadcastInDim S2x4096x1 ![0, 1] bcast_S2x4096_S2x4096x1_0_1 main_v1
  let main_cst_0 : FVec F S_ .f32 := constant S_ .f32 0x7F800000#32
  let main_v3 : FVec F S2x4096x1 .f32 := broadcastInDim S2x4096x1 ![] bcast_S_S2x4096x1 main_cst_0
  let main_v4 : IVec S2x4096x1 1 := cmpf .olt main_v2 main_v3
  let main_v5 : FVec F S2x4096x2048 .f32 := Host.negf main_arg0
  let main_cst_1 : FVec F S_ .f32 := constant S_ .f32 0x3F800000#32
  let main_v6 : FVec F S2x4096x2048 .f32 := broadcastInDim S2x4096x2048 ![] bcast_S_S2x4096x2048 main_cst_1
  let main_v7 : FVec F S2x4096x2048 .f32 := addf main_v5 main_v6
  let main_cst_2 : FVec F S_ .f32 := constant S_ .f32 0x00000000#32
  let main_v8 : FVec F S2x4096x2048 .f32 := broadcastInDim S2x4096x2048 ![] bcast_S_S2x4096x2048 main_cst_2
  let main_v9 : FVec F S2x4096x2048 .f32 := maximumf main_v7 main_v8
  let main_v10 : IVec S2x4096x2048 1 := cmpf .oeq main_arg1 main_v9
  let main_v11 : IVec S2x4096x2048 1 := broadcastInDim S2x4096x2048 ![0, 1, 2] bcast_S2x4096x1_S2x4096x2048_0_1_2 main_v4
  let main_v12 : IVec S2x4096x2048 1 := ori main_v11 main_v10
  main_v12
-- ==== Post_near_sparsemax.lean ====
abbrev S2x4096x2048 : Shape := ⟨3, ![2, 4096, 2048]⟩
abbrev S2048 : Shape := ⟨1, ![2048]⟩
abbrev S_ : Shape := ⟨0, ![]⟩
abbrev S1x1x2048 : Shape := ⟨3, ![1, 1, 2048]⟩
abbrev S2x4096 : Shape := ⟨2, ![2, 4096]⟩
abbrev S2x4096x1 : Shape := ⟨3, ![2, 4096, 1]⟩
abbrev S2x4096x1x1 : Shape := ⟨4, ![2, 4096, 1, 1]⟩
abbrev S1 : Shape := ⟨1, ![1]⟩
abbrev S1x1x1x1 : Shape := ⟨4, ![1, 1, 1, 1]⟩

class Facts : Prop where
  bcast_S_S2048 : S_.BroadcastsInDim S2048 (![] : Fin 0 → Fin S2048.rank)
  bcast_S_S_ : S_.BroadcastsInDim S_ (![] : Fin 0 → Fin S_.rank)
  reduceWindows_S2x4096x2048_S2x4096x2048_w1s1p0_0_w1s1p0_0_w2048s1p2047_0 : S2x4096x2048.ReduceWindows (![1, 1, 2048] : Fin 3 → Nat) ![1, 1, 1] ![0, 0, 2047] ![0, 0, 0] S2x4096x2048
  h_S_ : 0 < S_.numel
  bcast_S2048_S1x1x2048_2 : S2048.BroadcastsInDim S1x1x2048 (![2] : Fin 1 → Fin S1x1x2048.rank)
  bcast_S1x1x2048_S2x4096x2048_0_1_2 : S1x1x2048.BroadcastsInDim S2x4096x2048 (![0, 1, 2] : Fin 3 → Fin S2x4096x2048.rank)
  bcast_S_S2x4096x2048 : S_.BroadcastsInDim S2x4096x2048 (![] : Fin 0 → Fin S2x4096x2048.rank)
  natLt_1_32 : 1 < 32
  reducesTo_S2x4096x2048_S2x4096_d2 : S2x4096x2048.ReducesTo [2] S2x4096
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  shapeCasts_S2x4096x1_S2x4096x1x1 : S2x4096x1.ShapeCasts S2x4096x1x1
  bcast_S_S2x4096x1x1 : S_.BroadcastsInDim S2x4096x1x1 (![] : Fin 0 → Fin S2x4096x1x1.rank)
  bcast_S1_S1x1x1x1_3 : S1.BroadcastsInDim S1x1x1x1 (![3] : Fin 1 → Fin S1x1x1x1.rank)
  bcast_S1x1x1x1_S2x4096x1x1_0_1_2_3 : S1x1x1x1.BroadcastsInDim S2x4096x1x1 (![0, 1, 2, 3] : Fin 4 → Fin S2x4096x1x1.rank)
  reducesTo_S2x4096x1x1_S2x4096x1_d3 : S2x4096x1x1.ReducesTo [3] S2x4096x1
  bcast_S2x4096x1_S2x4096x2048_0_1_2 : S2x4096x1.BroadcastsInDim S2x4096x2048 (![0, 1, 2] : Fin 3 → Fin S2x4096x2048.rank)
  gather_S2x4096x2048_S2x4096x1x1_S2x4096x1_n_2_01_01_2_3_111_wf : GatherDims.WF S2x4096x2048 S2x4096x1x1 S2x4096x1 [] [2] [0, 1] [2] [0, 1] 3 ![1, 1, 1]

variable [Facts]

variable {F : FTy → Type} [FloatOps F]
def comparator_f32_d2 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9
def gather_S2x4096x2048_S2x4096x1x1_S2x4096x1_n_2_01_01_2_3_111 : GatherDims S2x4096x2048 S2x4096x1x1 S2x4096x1 where
  offsetDims := []
  collapsedSliceDims := [2]
  operandBatchingDims := [0, 1]
  startIndicesBatchingDims := [0, 1]
  startIndexMap := [2]
  indexVectorDim := 3
  sliceSizes := ![1, 1, 1]
  wf := gather_S2x4096x2048_S2x4096x1x1_S2x4096x1_n_2_01_01_2_3_111_wf

def fn_sort {F : FTy → Type} [FloatOps F] (arg0 : FVec F S2x4096x2048 .f32) : FVec F S2x4096x2048 .f32 :=
  let v0 : FVec F S2x4096x2048 .f32 := (fun x => Host.sort S2x4096x2048 2 comparator_f32_d2 x) arg0
  v0

def fn_cumsum_0 {F : FTy → Type} [FloatOps F] (arg0 : FVec F S2x4096x2048 .f32) : FVec F S2x4096x2048 .f32 :=
  let cst : FVec F S_ .f32 := constant S_ .f32 0x00000000#32
  let v0 : FVec F S_ .f32 := broadcastInDim S_ ![] bcast_S_S_ cst
  let v1 : FVec F S2x4096x2048 .f32 := (fun x v => Host.reduceWindowAdd ![1, 1, 2048] ![1, 1, 1] ![0, 0, 2047] ![0, 0, 0] x v reduceWindows_S2x4096x2048_S2x4096x2048_w1s1p0_0_w1s1p0_0_w2048s1p2047_0 h_S_) arg0 v0
  v1

def fn_cumsum {F : FTy → Type} [FloatOps F] (arg0 : FVec F S2x4096x2048 .f32) : FVec F S2x4096x2048 .f32 :=
  let v0 : FVec F S2x4096x2048 .f32 := fn_cumsum_0 (F := F) arg0
  v0

def fn_take_along_axis {F : FTy → Type} [FloatOps F] (arg0 : FVec F S2x4096x2048 .f32) (arg1 : IVec S2x4096x1 32) : FVec F S2x4096x1 .f32 :=
  let c : IVec S_ 32 := constantI S_ 32 0#32
  let v0 : IVec S2x4096x1 32 := broadcastInDim S2x4096x1 ![] bcast_S_S2x4096x1 c
  let v1 : IVec S2x4096x1 1 := cmpi .slt arg1 v0
  let c_0 : IVec S_ 32 := constantI S_ 32 2048#32
  let v2 : IVec S2x4096x1 32 := broadcastInDim S2x4096x1 ![] bcast_S_S2x4096x1 c_0
  let v3 : IVec S2x4096x1 32 := addi arg1 v2
  let v4 : IVec S2x4096x1 32 := select v1 v3 arg1
  let v5 : IVec S2x4096x1x1 32 := shapeCast S2x4096x1x1 v4 shapeCasts_S2x4096x1_S2x4096x1x1
  let c_1 : IVec S1 32 := constantI S1 32 2047#32
  let c_2 : IVec S_ 32 := constantI S_ 32 0#32
  let v6 : IVec S2x4096x1x1 32 := broadcastInDim S2x4096x1x1 ![] bcast_S_S2x4096x1x1 c_2
  let v7 : IVec S2x4096x1x1 1 := cmpi .sge v5 v6
  let v8 : IVec S1x1x1x1 32 := broadcastInDim S1x1x1x1 ![3] bcast_S1_S1x1x1x1_3 c_1
  let v9 : IVec S2x4096x1x1 32 := broadcastInDim S2x4096x1x1 ![0, 1, 2, 3] bcast_S1x1x1x1_S2x4096x1x1_0_1_2_3 v8
  let v10 : IVec S2x4096x1x1 1 := cmpi .sle v5 v9
  let v11 : IVec S2x4096x1x1 1 := andi v7 v10
  let c_3 : IVec S_ 1 := constantI S_ 1 1#1
  let v12 : IVec S2x4096x1 1 := (fun x v => Host.reduce IntOp.andi x v reducesTo_S2x4096x1x1_S2x4096x1_d3 h_S_) v11 c_3
  let v13 : FVec F S2x4096x1 .f32 := (fun x i => Host.gather gather_S2x4096x2048_S2x4096x1x1_S2x4096x1_n_2_01_01_2_3_111 x i) arg0 v5
  let cst : FVec F S_ .f32 := constant S_ .f32 0x7FC00000#32
  let v14 : FVec F S2x4096x1 .f32 := broadcastInDim S2x4096x1 ![] bcast_S_S2x4096x1 cst
  let v15 : FVec F S2x4096x1 .f32 := select v12 v13 v14
  v15

def fn_part2 {F : FTy → Type} [FloatOps F] (main_v33 : IVec S2x4096x1 1) (main_v38 : IVec S2x4096x2048 1) : IVec S2x4096x2048 1 :=
  let main_v39 : IVec S2x4096x2048 1 := broadcastInDim S2x4096x2048 ![0, 1, 2] bcast_S2x4096x1_S2x4096x2048_0_1_2 main_v33
  let main_v40 : IVec S2x4096x2048 1 := ori main_v39 main_v38
  main_v40

def fn_part1 {F : FTy → Type} [FloatOps F] (main_arg0 : FVec F S2x4096x2048 .f32) (main_arg1 : FVec F S2x4096x2048 .f32) (main_v0 : FVec F S2x4096x2048 .f32) (main_v16 : IVec S2x4096x1 32) (main_v19 : FVec F S2x4096x1 .f32) : IVec S2x4096x2048 1 :=
  let main_cst_2 : FVec F S_ .f32 := constant S_ .f32 0x3F800000#32
  let main_v20 : FVec F S2x4096x1 .f32 := broadcastInDim S2x4096x1 ![] bcast_S_S2x4096x1 main_cst_2
  let main_v21 : FVec F S2x4096x1 .f32 := subf main_v19 main_v20
  let main_v22 : FVec F S2x4096x1 .f32 := sitofp .f32 main_v16
  let main_v23 : FVec F S2x4096x1 .f32 := Host.divf main_v21 main_v22
  let main_v24 : FVec F S2x4096x2048 .f32 := broadcastInDim S2x4096x2048 ![0, 1, 2] bcast_S2x4096x1_S2x4096x2048_0_1_2 main_v23
  let main_v25 : FVec F S2x4096x2048 .f32 := subf main_v0 main_v24
  let main_cst_3 : FVec F S_ .f32 := constant S_ .f32 0x00000000#32
  let main_v26 : FVec F S2x4096x2048 .f32 := broadcastInDim S2x4096x2048 ![] bcast_S_S2x4096x2048 main_cst_3
  let main_v27 : FVec F S2x4096x2048 .f32 := maximumf main_v25 main_v26
  let main_v28 : FVec F S2x4096x2048 .f32 := Host.negf main_arg0
  let main_cst_4 : FVec F S_ .f32 := constant S_ .f32 0xFF800000#32
  let main_v29 : FVec F S2x4096 .f32 := (fun x v => Host.reduce FloatOps.maximumf x v reducesTo_S2x4096x2048_S2x4096_d2 h_S_) main_v28 main_cst_4
  let main_v30 : FVec F S2x4096x1 .f32 := broadcastInDim S2x4096x1 ![0, 1] bcast_S2x4096_S2x4096x1_0_1 main_v29
  let main_cst_5 : FVec F S_ .f32 := constant S_ .f32 0x7F800000#32
  let main_v31 : FVec F S2x4096x1 .f32 := broadcastInDim S2x4096x1 ![] bcast_S_S2x4096x1 main_cst_5
  let main_v32 : IVec S2x4096x1 1 := cmpf .olt main_v30 main_v31
  let main_v33 : IVec S2x4096x1 1 := noti main_v32
  let main_v34 : IVec S2x4096x2048 1 := cmpf .ole main_v27 main_arg1
  let main_cst_6 : FVec F S_ .f32 := constant S_ .f32 0x3D800000#32
  let main_v35 : FVec F S2x4096x2048 .f32 := broadcastInDim S2x4096x2048 ![] bcast_S_S2x4096x2048 main_cst_6
  let main_v36 : FVec F S2x4096x2048 .f32 := addf main_v27 main_v35
  let main_v37 : IVec S2x4096x2048 1 := cmpf .ole main_arg1 main_v36
  let main_v38 : IVec S2x4096x2048 1 := andi main_v34 main_v37
  fn_part2 (F := F) main_v33 main_v38

def fn {F : FTy → Type} [FloatOps F] (main_arg0 : FVec F S2x4096x2048 .f32) (main_arg1 : FVec F S2x4096x2048 .f32) : IVec S2x4096x2048 1 :=
  let main_v0 : FVec F S2x4096x2048 .f32 := Host.negf main_arg0
  let main_v1 : FVec F S2x4096x2048 .f32 := Host.negf main_v0
  let main_v2 : FVec F S2x4096x2048 .f32 := fn_sort (F := F) main_v1
  let main_v3 : FVec F S2x4096x2048 .f32 := Host.negf main_v2
  let main_v4 : FVec F S2048 .f32 := sitofp .f32 (iotaInDim S2048 32 0)
  let main_cst : FVec F S_ .f32 := constant S_ .f32 0x3F800000#32
  let main_v5 : FVec F S2048 .f32 := broadcastInDim S2048 ![] bcast_S_S2048 main_cst
  let main_v6 : FVec F S2048 .f32 := addf main_v5 main_v4
  let main_v7 : FVec F S2x4096x2048 .f32 := fn_cumsum (F := F) main_v3
  let main_v8 : FVec F S1x1x2048 .f32 := broadcastInDim S1x1x2048 ![2] bcast_S2048_S1x1x2048_2 main_v6
  let main_v9 : FVec F S2x4096x2048 .f32 := broadcastInDim S2x4096x2048 ![0, 1, 2] bcast_S1x1x2048_S2x4096x2048_0_1_2 main_v8
  let main_v10 : FVec F S2x4096x2048 .f32 := mulf main_v9 main_v3
  let main_cst_0 : FVec F S_ .f32 := constant S_ .f32 0x3F800000#32
  let main_v11 : FVec F S2x4096x2048 .f32 := broadcastInDim S2x4096x2048 ![] bcast_S_S2x4096x2048 main_cst_0
  let main_v12 : FVec F S2x4096x2048 .f32 := addf main_v11 main_v10
  let main_v13 : IVec S2x4096x2048 1 := cmpf .ogt main_v12 main_v7
  let main_v14 : IVec S2x4096x2048 32 := (extui 32 · natLt_1_32) main_v13
  let main_c : IVec S_ 32 := constantI S_ 32 0#32
  let main_v15 : IVec S2x4096 32 := (fun x v => Host.reduce IntOp.addi x v reducesTo_S2x4096x2048_S2x4096_d2 h_S_) main_v14 main_c
  let main_v16 : IVec S2x4096x1 32 := broadcastInDim S2x4096x1 ![0, 1] bcast_S2x4096_S2x4096x1_0_1 main_v15
  let main_c_1 : IVec S_ 32 := constantI S_ 32 1#32
  let main_v17 : IVec S2x4096x1 32 := broadcastInDim S2x4096x1 ![] bcast_S_S2x4096x1 main_c_1
  let main_v18 : IVec S2x4096x1 32 := subi main_v16 main_v17
  let main_v19 : FVec F S2x4096x1 .f32 := fn_take_along_axis (F := F) main_v7 main_v18
  fn_part1 (F := F) main_arg0 main_arg1 main_v0 main_v16 main_v19
-- ==== Pre_few_near.lean ====
abbrev S2x4096x2048 : Shape := ⟨3, ![2, 4096, 2048]⟩
abbrev S2048 : Shape := ⟨1, ![2048]⟩
abbrev S_ : Shape := ⟨0, ![]⟩
abbrev S1x1x2048 : Shape := ⟨3, ![1, 1, 2048]⟩
abbrev S2x4096 : Shape := ⟨2, ![2, 4096]⟩
abbrev S2x4096x1 : Shape := ⟨3, ![2, 4096, 1]⟩
abbrev S2x4096x1x1 : Shape := ⟨4, ![2, 4096, 1, 1]⟩
abbrev S1 : Shape := ⟨1, ![1]⟩
abbrev S1x1x1x1 : Shape := ⟨4, ![1, 1, 1, 1]⟩

class Facts : Prop where
  bcast_S_S2048 : S_.BroadcastsInDim S2048 (![] : Fin 0 → Fin S2048.rank)
  bcast_S_S_ : S_.BroadcastsInDim S_ (![] : Fin 0 → Fin S_.rank)
  reduceWindows_S2x4096x2048_S2x4096x2048_w1s1p0_0_w1s1p0_0_w2048s1p2047_0 : S2x4096x2048.ReduceWindows (![1, 1, 2048] : Fin 3 → Nat) ![1, 1, 1] ![0, 0, 2047] ![0, 0, 0] S2x4096x2048
  h_S_ : 0 < S_.numel
  bcast_S2048_S1x1x2048_2 : S2048.BroadcastsInDim S1x1x2048 (![2] : Fin 1 → Fin S1x1x2048.rank)
  bcast_S1x1x2048_S2x4096x2048_0_1_2 : S1x1x2048.BroadcastsInDim S2x4096x2048 (![0, 1, 2] : Fin 3 → Fin S2x4096x2048.rank)
  bcast_S_S2x4096x2048 : S_.BroadcastsInDim S2x4096x2048 (![] : Fin 0 → Fin S2x4096x2048.rank)
  natLt_1_32 : 1 < 32
  reducesTo_S2x4096x2048_S2x4096_d2 : S2x4096x2048.ReducesTo [2] S2x4096
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  shapeCasts_S2x4096x1_S2x4096x1x1 : S2x4096x1.ShapeCasts S2x4096x1x1
  bcast_S_S2x4096x1x1 : S_.BroadcastsInDim S2x4096x1x1 (![] : Fin 0 → Fin S2x4096x1x1.rank)
  bcast_S1_S1x1x1x1_3 : S1.BroadcastsInDim S1x1x1x1 (![3] : Fin 1 → Fin S1x1x1x1.rank)
  bcast_S1x1x1x1_S2x4096x1x1_0_1_2_3 : S1x1x1x1.BroadcastsInDim S2x4096x1x1 (![0, 1, 2, 3] : Fin 4 → Fin S2x4096x1x1.rank)
  reducesTo_S2x4096x1x1_S2x4096x1_d3 : S2x4096x1x1.ReducesTo [3] S2x4096x1
  bcast_S2x4096x1_S2x4096x2048_0_1_2 : S2x4096x1.BroadcastsInDim S2x4096x2048 (![0, 1, 2] : Fin 3 → Fin S2x4096x2048.rank)
  gather_S2x4096x2048_S2x4096x1x1_S2x4096x1_n_2_01_01_2_3_111_wf : GatherDims.WF S2x4096x2048 S2x4096x1x1 S2x4096x1 [] [2] [0, 1] [2] [0, 1] 3 ![1, 1, 1]

variable [Facts]

variable {F : FTy → Type} [FloatOps F]
def comparator_f32_d2 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9
def gather_S2x4096x2048_S2x4096x1x1_S2x4096x1_n_2_01_01_2_3_111 : GatherDims S2x4096x2048 S2x4096x1x1 S2x4096x1 where
  offsetDims := []
  collapsedSliceDims := [2]
  operandBatchingDims := [0, 1]
  startIndicesBatchingDims := [0, 1]
  startIndexMap := [2]
  indexVectorDim := 3
  sliceSizes := ![1, 1, 1]
  wf := gather_S2x4096x2048_S2x4096x1x1_S2x4096x1_n_2_01_01_2_3_111_wf

def fn_sort {F : FTy → Type} [FloatOps F] (arg0 : FVec F S2x4096x2048 .f32) : FVec F S2x4096x2048 .f32 :=
  let v0 : FVec F S2x4096x2048 .f32 := (fun x => Host.sort S2x4096x2048 2 comparator_f32_d2 x) arg0
  v0

def fn_cumsum_0 {F : FTy → Type} [FloatOps F] (arg0 : FVec F S2x4096x2048 .f32) : FVec F S2x4096x2048 .f32 :=
  let cst : FVec F S_ .f32 := constant S_ .f32 0x00000000#32
  let v0 : FVec F S_ .f32 := broadcastInDim S_ ![] bcast_S_S_ cst
  let v1 : FVec F S2x4096x2048 .f32 := (fun x v => Host.reduceWindowAdd ![1, 1, 2048] ![1, 1, 1] ![0, 0, 2047] ![0, 0, 0] x v reduceWindows_S2x4096x2048_S2x4096x2048_w1s1p0_0_w1s1p0_0_w2048s1p2047_0 h_S_) arg0 v0
  v1

def fn_cumsum {F : FTy → Type} [FloatOps F] (arg0 : FVec F S2x4096x2048 .f32) : FVec F S2x4096x2048 .f32 :=
  let v0 : FVec F S2x4096x2048 .f32 := fn_cumsum_0 (F := F) arg0
  v0

def fn_take_along_axis {F : FTy → Type} [FloatOps F] (arg0 : FVec F S2x4096x2048 .f32) (arg1 : IVec S2x4096x1 32) : FVec F S2x4096x1 .f32 :=
  let c : IVec S_ 32 := constantI S_ 32 0#32
  let v0 : IVec S2x4096x1 32 := broadcastInDim S2x4096x1 ![] bcast_S_S2x4096x1 c
  let v1 : IVec S2x4096x1 1 := cmpi .slt arg1 v0
  let c_0 : IVec S_ 32 := constantI S_ 32 2048#32
  let v2 : IVec S2x4096x1 32 := broadcastInDim S2x4096x1 ![] bcast_S_S2x4096x1 c_0
  let v3 : IVec S2x4096x1 32 := addi arg1 v2
  let v4 : IVec S2x4096x1 32 := select v1 v3 arg1
  let v5 : IVec S2x4096x1x1 32 := shapeCast S2x4096x1x1 v4 shapeCasts_S2x4096x1_S2x4096x1x1
  let c_1 : IVec S1 32 := constantI S1 32 2047#32
  let c_2 : IVec S_ 32 := constantI S_ 32 0#32
  let v6 : IVec S2x4096x1x1 32 := broadcastInDim S2x4096x1x1 ![] bcast_S_S2x4096x1x1 c_2
  let v7 : IVec S2x4096x1x1 1 := cmpi .sge v5 v6
  let v8 : IVec S1x1x1x1 32 := broadcastInDim S1x1x1x1 ![3] bcast_S1_S1x1x1x1_3 c_1
  let v9 : IVec S2x4096x1x1 32 := broadcastInDim S2x4096x1x1 ![0, 1, 2, 3] bcast_S1x1x1x1_S2x4096x1x1_0_1_2_3 v8
  let v10 : IVec S2x4096x1x1 1 := cmpi .sle v5 v9
  let v11 : IVec S2x4096x1x1 1 := andi v7 v10
  let c_3 : IVec S_ 1 := constantI S_ 1 1#1
  let v12 : IVec S2x4096x1 1 := (fun x v => Host.reduce IntOp.andi x v reducesTo_S2x4096x1x1_S2x4096x1_d3 h_S_) v11 c_3
  let v13 : FVec F S2x4096x1 .f32 := (fun x i => Host.gather gather_S2x4096x2048_S2x4096x1x1_S2x4096x1_n_2_01_01_2_3_111 x i) arg0 v5
  let cst : FVec F S_ .f32 := constant S_ .f32 0x7FC00000#32
  let v14 : FVec F S2x4096x1 .f32 := broadcastInDim S2x4096x1 ![] bcast_S_S2x4096x1 cst
  let v15 : FVec F S2x4096x1 .f32 := select v12 v13 v14
  v15

def fn_part2 {F : FTy → Type} [FloatOps F] (main_v34 : IVec S2x4096x1 1) (main_v37 : IVec S2x4096x1 32) (main_c_7 : IVec S_ 32) : IVec S2x4096x1 1 :=
  let main_v38 : IVec S2x4096x1 32 := broadcastInDim S2x4096x1 ![] bcast_S_S2x4096x1 main_c_7
  let main_v39 : IVec S2x4096x1 1 := cmpi .sle main_v37 main_v38
  let main_v40 : IVec S2x4096x1 1 := andi main_v34 main_v39
  main_v40

def fn_part1 {F : FTy → Type} [FloatOps F] (main_v0 : FVec F S2x4096x2048 .f32) (main_v16 : IVec S2x4096x1 32) (main_v19 : FVec F S2x4096x1 .f32) : IVec S2x4096x1 1 :=
  let main_cst_2 : FVec F S_ .f32 := constant S_ .f32 0x3F800000#32
  let main_v20 : FVec F S2x4096x1 .f32 := broadcastInDim S2x4096x1 ![] bcast_S_S2x4096x1 main_cst_2
  let main_v21 : FVec F S2x4096x1 .f32 := subf main_v19 main_v20
  let main_v22 : FVec F S2x4096x1 .f32 := sitofp .f32 main_v16
  let main_v23 : FVec F S2x4096x1 .f32 := Host.divf main_v21 main_v22
  let main_cst_3 : FVec F S_ .f32 := constant S_ .f32 0x3D800000#32
  let main_v24 : FVec F S2x4096x1 .f32 := broadcastInDim S2x4096x1 ![] bcast_S_S2x4096x1 main_cst_3
  let main_v25 : FVec F S2x4096x1 .f32 := subf main_v23 main_v24
  let main_v26 : FVec F S2x4096x2048 .f32 := broadcastInDim S2x4096x2048 ![0, 1, 2] bcast_S2x4096x1_S2x4096x2048_0_1_2 main_v25
  let main_v27 : IVec S2x4096x2048 1 := cmpf .ogt main_v0 main_v26
  let main_v28 : FVec F S2x4096x2048 .f32 := broadcastInDim S2x4096x2048 ![0, 1, 2] bcast_S2x4096x1_S2x4096x2048_0_1_2 main_v23
  let main_v29 : IVec S2x4096x2048 1 := cmpf .olt main_v0 main_v28
  let main_v30 : IVec S2x4096x2048 1 := andi main_v27 main_v29
  let main_cst_4 : FVec F S_ .f32 := constant S_ .f32 0xFF800000#32
  let main_v31 : FVec F S2x4096 .f32 := (fun x v => Host.reduce FloatOps.maximumf x v reducesTo_S2x4096x2048_S2x4096_d2 h_S_) main_v0 main_cst_4
  let main_v32 : FVec F S2x4096x1 .f32 := broadcastInDim S2x4096x1 ![0, 1] bcast_S2x4096_S2x4096x1_0_1 main_v31
  let main_cst_5 : FVec F S_ .f32 := constant S_ .f32 0x7F800000#32
  let main_v33 : FVec F S2x4096x1 .f32 := broadcastInDim S2x4096x1 ![] bcast_S_S2x4096x1 main_cst_5
  let main_v34 : IVec S2x4096x1 1 := cmpf .olt main_v32 main_v33
  let main_v35 : IVec S2x4096x2048 32 := (extui 32 · natLt_1_32) main_v30
  let main_c_6 : IVec S_ 32 := constantI S_ 32 0#32
  let main_v36 : IVec S2x4096 32 := (fun x v => Host.reduce IntOp.addi x v reducesTo_S2x4096x2048_S2x4096_d2 h_S_) main_v35 main_c_6
  let main_v37 : IVec S2x4096x1 32 := broadcastInDim S2x4096x1 ![0, 1] bcast_S2x4096_S2x4096x1_0_1 main_v36
  let main_c_7 : IVec S_ 32 := constantI S_ 32 2#32
  fn_part2 (F := F) main_v34 main_v37 main_c_7

def fn {F : FTy → Type} [FloatOps F] (main_arg0 : FVec F S2x4096x2048 .f32) : IVec S2x4096x1 1 :=
  let main_v0 : FVec F S2x4096x2048 .f32 := Host.negf main_arg0
  let main_v1 : FVec F S2x4096x2048 .f32 := Host.negf main_v0
  let main_v2 : FVec F S2x4096x2048 .f32 := fn_sort (F := F) main_v1
  let main_v3 : FVec F S2x4096x2048 .f32 := Host.negf main_v2
  let main_v4 : FVec F S2048 .f32 := sitofp .f32 (iotaInDim S2048 32 0)
  let main_cst : FVec F S_ .f32 := constant S_ .f32 0x3F800000#32
  let main_v5 : FVec F S2048 .f32 := broadcastInDim S2048 ![] bcast_S_S2048 main_cst
  let main_v6 : FVec F S2048 .f32 := addf main_v5 main_v4
  let main_v7 : FVec F S2x4096x2048 .f32 := fn_cumsum (F := F) main_v3
  let main_v8 : FVec F S1x1x2048 .f32 := broadcastInDim S1x1x2048 ![2] bcast_S2048_S1x1x2048_2 main_v6
  let main_v9 : FVec F S2x4096x2048 .f32 := broadcastInDim S2x4096x2048 ![0, 1, 2] bcast_S1x1x2048_S2x4096x2048_0_1_2 main_v8
  let main_v10 : FVec F S2x4096x2048 .f32 := mulf main_v9 main_v3
  let main_cst_0 : FVec F S_ .f32 := constant S_ .f32 0x3F800000#32
  let main_v11 : FVec F S2x4096x2048 .f32 := broadcastInDim S2x4096x2048 ![] bcast_S_S2x4096x2048 main_cst_0
  let main_v12 : FVec F S2x4096x2048 .f32 := addf main_v11 main_v10
  let main_v13 : IVec S2x4096x2048 1 := cmpf .ogt main_v12 main_v7
  let main_v14 : IVec S2x4096x2048 32 := (extui 32 · natLt_1_32) main_v13
  let main_c : IVec S_ 32 := constantI S_ 32 0#32
  let main_v15 : IVec S2x4096 32 := (fun x v => Host.reduce IntOp.addi x v reducesTo_S2x4096x2048_S2x4096_d2 h_S_) main_v14 main_c
  let main_v16 : IVec S2x4096x1 32 := broadcastInDim S2x4096x1 ![0, 1] bcast_S2x4096_S2x4096x1_0_1 main_v15
  let main_c_1 : IVec S_ 32 := constantI S_ 32 1#32
  let main_v17 : IVec S2x4096x1 32 := broadcastInDim S2x4096x1 ![] bcast_S_S2x4096x1 main_c_1
  let main_v18 : IVec S2x4096x1 32 := subi main_v16 main_v17
  let main_v19 : FVec F S2x4096x1 .f32 := fn_take_along_axis (F := F) main_v7 main_v18
  fn_part1 (F := F) main_v0 main_v16 main_v19
-- ==== Kernel.lean ====
abbrev S2x4096x2048 : Shape := ⟨3, ![2, 4096, 2048]⟩
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 4
  | .smem => 0
  | _ => 0

abbrev bufTy : (tb : Table) → Fin (tcTables nBuf tb) → BufTy
  | .hbm, ⟨0, _⟩ => ⟨S2x4096x2048, .f32⟩
  | .hbm, ⟨1, _⟩ => ⟨S8192x2048, .f32⟩
  | .hbm, ⟨2, _⟩ => ⟨S8192x2048, .f32⟩
  | .hbm, ⟨3, _⟩ => ⟨S2x4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S2x4096x2048 : Shape := ⟨3, ![2, 4096, 2048]⟩
abbrev S2048 : Shape := ⟨1, ![2048]⟩
abbrev S_ : Shape := ⟨0, ![]⟩
abbrev S1x1x2048 : Shape := ⟨3, ![1, 1, 2048]⟩
abbrev S2x4096 : Shape := ⟨2, ![2, 4096]⟩
abbrev S2x4096x1 : Shape := ⟨3, ![2, 4096, 1]⟩
abbrev S2x4096x1x1 : Shape := ⟨4, ![2, 4096, 1, 1]⟩
abbrev S1 : Shape := ⟨1, ![1]⟩
abbrev S1x1x1x1 : Shape := ⟨4, ![1, 1, 1, 1]⟩

abbrev nBuf : Space → Nat
  | .hbm => 58
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S2x4096x2048, .f32⟩
  | .hbm, ⟨3, _⟩ => ⟨S2x4096x2048, .f32⟩
  | .hbm, ⟨4, _⟩ => ⟨S2x4096x2048, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S_, .f32⟩
  | .hbm, ⟨10, _⟩ => ⟨S_, .f32⟩
  | .hbm, ⟨11, _⟩ => ⟨S2x4096x2048, .f32⟩
  | .hbm, ⟨12, _⟩ => ⟨S1x1x2048, .f32⟩
  | .hbm, ⟨13, _⟩ => ⟨S2x4096x2048, .f32⟩
  | .hbm, ⟨14, _⟩ => ⟨S2x4096x2048, .f32⟩
  | .hbm, ⟨15, _⟩ => ⟨S_, .f32⟩
  | .hbm, ⟨16, _⟩ => ⟨S2x4096x2048, .f32⟩
  | .hbm, ⟨17, _⟩ => ⟨S2x4096x2048, .f32⟩
  | .hbm, ⟨18, _⟩ => ⟨S2x4096x2048, .i1⟩
  | .hbm, ⟨19, _⟩ => ⟨S2x4096x2048, .i32⟩
  | .hbm, ⟨20, _⟩ => ⟨S_, .i32⟩
  | .hbm, ⟨21, _⟩ => ⟨S2x4096, .i32⟩
  | .hbm, ⟨22, _⟩ => ⟨S2x4096x1, .i32⟩
  | .hbm, ⟨23, _⟩ => ⟨S_, .i32⟩
  | .hbm, ⟨24, _⟩ => ⟨S2x4096x1, .i32⟩
  | .hbm, ⟨25, _⟩ => ⟨S2x4096x1, .i32⟩
  | .hbm, ⟨26, _⟩ => ⟨S_, .i32⟩
  | .hbm, ⟨27, _⟩ => ⟨S2x4096x1, .i32⟩
  | .hbm, ⟨28, _⟩ => ⟨S2x4096x1, .i1⟩
  | .hbm, ⟨29, _⟩ => ⟨S_, .i32⟩
  | .hbm, ⟨30, _⟩ => ⟨S2x4096x1, .i32⟩
  | .hbm, ⟨31, _⟩ => ⟨S2x4096x1, .i32⟩
  | .hbm, ⟨32, _⟩ => ⟨S2x4096x1, .i32⟩
  | .hbm, ⟨33, _⟩ => ⟨S2x4096x1x1, .i32⟩
  | .hbm, ⟨34, _⟩ => ⟨S1, .i32⟩
  | .hbm, ⟨35, _⟩ => ⟨S_, .i32⟩
  | .hbm, ⟨36, _⟩ => ⟨S2x4096x1x1, .i32⟩
  | .hbm, ⟨37, _⟩ => ⟨S2x4096x1x1, .i1⟩
  | .hbm, ⟨38, _⟩ => ⟨S1x1x1x1, .i32⟩
  | .hbm, ⟨39, _⟩ => ⟨S2x4096x1x1, .i32⟩
  | .hbm, ⟨40, _⟩ => ⟨S2x4096x1x1, .i1⟩
  | .hbm, ⟨41, _⟩ => ⟨S2x4096x1x1, .i1⟩
  | .hbm, ⟨42, _⟩ => ⟨S_, .i1⟩
  | .hbm, ⟨43, _⟩ => ⟨S2x4096x1, .i1⟩
  | .hbm, ⟨44, _⟩ => ⟨S2x4096x1, .f32⟩
  | .hbm, ⟨45, _⟩ => ⟨S_, .f32⟩
  | .hbm, ⟨46, _⟩ => ⟨S2x4096x1, .f32⟩
  | .hbm, ⟨47, _⟩ => ⟨S2x4096x1, .f32⟩
  | .hbm, ⟨48, _⟩ => ⟨S_, .f32⟩
  | .hbm, ⟨49, _⟩ => ⟨S2x4096x1, .f32⟩
  | .hbm, ⟨50, _⟩ => ⟨S2x4096x1, .f32⟩
  | .hbm, ⟨51, _⟩ => ⟨S2x4096x1, .f32⟩
  | .hbm, ⟨52, _⟩ => ⟨S2x4096x1, .f32⟩
  | .hbm, ⟨53, _⟩ => ⟨S2x4096x2048, .f32⟩
  | .hbm, ⟨54, _⟩ => ⟨S2x4096x2048, .f32⟩
  | .hbm, ⟨55, _⟩ => ⟨S_, .f32⟩
  | .hbm, ⟨56, _⟩ => ⟨S2x4096x2048, .f32⟩
  | .hbm, ⟨57, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_call1_call0_cst : Ref sig .tc := ⟨.hbm, 9, rfl⟩
abbrev main_call1_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_call2_c : Ref sig .tc := ⟨.hbm, 26, rfl⟩
abbrev main_call2_v0 : Ref sig .tc := ⟨.hbm, 27, rfl⟩
abbrev main_call2_v1 : Ref sig .tc := ⟨.hbm, 28, rfl⟩
abbrev main_call2_c_0 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_v5 : Ref sig .tc := ⟨.hbm, 33, rfl⟩
abbrev main_call2_c_1 : Ref sig .tc := ⟨.hbm, 34, rfl⟩
abbrev main_call2_c_2 : Ref sig .tc := ⟨.hbm, 35, rfl⟩
abbrev main_call2_v6 : Ref sig .tc := ⟨.hbm, 36, rfl⟩
abbrev main_call2_v7 : Ref sig .tc := ⟨.hbm, 37, rfl⟩
abbrev main_call2_v8 : Ref sig .tc := ⟨.hbm, 38, rfl⟩
abbrev main_call2_v9 : Ref sig .tc := ⟨.hbm, 39, rfl⟩
abbrev main_call2_v10 : Ref sig .tc := ⟨.hbm, 40, rfl⟩
abbrev main_call2_v11 : Ref sig .tc := ⟨.hbm, 41, rfl⟩
abbrev main_call2_c_3 : Ref sig .tc := ⟨.hbm, 42, rfl⟩
abbrev main_call2_v12 : Ref sig .tc := ⟨.hbm, 43, rfl⟩
abbrev main_call2_v13 : Ref sig .tc := ⟨.hbm, 44, rfl⟩
abbrev main_call2_cst : Ref sig .tc := ⟨.hbm, 45, rfl⟩
abbrev main_call2_v14 : Ref sig .tc := ⟨.hbm, 46, rfl⟩
abbrev main_v19 : Ref sig .tc := ⟨.hbm, 47, rfl⟩
abbrev main_cst_2 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_3 : Ref sig .tc := ⟨.hbm, 55, rfl⟩
abbrev main_v26 : Ref sig .tc := ⟨.hbm, 56, rfl⟩
abbrev main_v27 : Ref sig .tc := ⟨.hbm, 57, rfl⟩

abbrev nD : Nat := 1
abbrev τ : Topo := Topo.v7x

variable {F : FTy → Type} [FloatOps F]
-- ==== Proof.Cumsum.lean ====
/- A running sum of extended reals along the last axis, as a window of the whole length padded low, read at an index. -/
module

public import Idealize.ShloMosaic.PureOps.Ideal
public import Idealize.ShloMosaic.PureOps.Ideal.Laws
public import Idealize.ShloMosaic.Lib.Pointwise
public import Idealize.ShloMosaic.Lib.IdealHost

@[expose] public section

noncomputable section

namespace Cert.Proof.Cumsum

open Finset Idealize.ShloMosaic

/-- Adding the values of a list one after another adds their sum. -/
theorem foldl_add {α : Type} (l : List α) (g : α → EReal) (v : EReal) :
    l.foldl (fun r n => r + g n) v = v + (l.map g).sum := by
  induction l generalizing v with
  | nil => simp
  | cons a l ih => rw [List.foldl_cons, ih, List.map_cons, List.sum_cons, add_assoc]

/-- A window of `N` positions padded low by one less, at position `j`, takes exactly the first `j + 1` values. -/
theorem sum_window (X : ℕ → EReal) (N j : ℕ) (hj : j < N) :
    ∑ n ∈ range N, (if N - 1 ≤ j + n then X (j + n - (N - 1)) else 0) = ∑ i ∈ range (j + 1), X i := by
  obtain ⟨p, rfl⟩ : ∃ p, N = p + (j + 1) := ⟨N - (j + 1), by omega⟩
  rw [sum_range_add]
  rw [sum_eq_zero fun n hn => by rw [if_neg (by have := mem_range.1 hn; omega)], zero_add]
  exact sum_congr rfl fun x _ => by rw [if_pos (by omega), show j + (p + x) - (p + (j + 1) - 1) = x by omega]

/-- The first `j + 1` values of a function on `Fin N`, cut off beyond. -/
theorem sum_first {N : ℕ} (f : Fin N → EReal) (j : Fin N) :
    ∑ i ∈ range (j.val + 1), (if h : i < N then f ⟨i, h⟩ else 0) = ∑ i ∈ univ.filter (· ≤ j), f i := by
  rw [sum_filter]
  have h1 : (∑ i : Fin N, if i ≤ j then f i else 0) =
      ∑ i : Fin N, (fun i : ℕ => if i ≤ j.val then (if h : i < N then f ⟨i, h⟩ else 0) else 0) i.val := by
    refine sum_congr rfl fun i _ => ?_
    show _ = if i.val ≤ j.val then (if h : i.val < N then f ⟨i.val, h⟩ else 0) else 0
    rw [dif_pos i.isLt]
    rfl
  rw [h1, Fin.sum_univ_eq_sum_range (fun i : ℕ => if i ≤ j.val then (if h : i < N then f ⟨i, h⟩ else 0) else 0) N, ← sum_filter]
  refine sum_congr (ext fun i => ?_) fun _ _ => rfl
  have := j.isLt
  simp only [mem_range, mem_filter]
  omega

variable {A B N : ℕ}

/-- The window has as many positions as the axis is long. -/
theorem numel_window (N : ℕ) : (⟨3, ![1, 1, N]⟩ : Shape).numel = N := by
  show ∏ a : Fin 3, (![1, 1, N] : Fin 3 → ℕ) a = N
  rw [Fin.prod_univ_three]
  show 1 * 1 * N = N
  omega

/-- Position `n` of the window is its index `(0, 0, n)`. -/
theorem window_at (n : Fin (⟨3, ![1, 1, N]⟩ : Shape).numel) :
    (⟨3, ![1, 1, N]⟩ : Shape).rowMajor.symm n = ix3 (0 : Fin 1) (0 : Fin 1) (n.cast (numel_window N)) :=
  ((⟨3, ![1, 1, N]⟩ : Shape).rowMajor.symm_apply_eq).2 (Fin.ext (by
    rw [Shape.rowMajor_val_three]
    show n.val = (0 * 1 + 0) * N + n.val
    omega))

/-- The running sum along the last axis at an index is the sum of the entries up to it. -/
theorem cumsum_at (x : FVec Ideal ⟨3, ![A, B, N]⟩ .f32) (init : FVec Ideal ⟨0, ![]⟩ .f32) (hinit : ∀ i, init i = 0) {Nm1 : ℕ}
    (hN : N = Nm1 + 1)
    (h : (⟨3, ![A, B, N]⟩ : Shape).ReduceWindows (![1, 1, N] : Fin 3 → ℕ) ![1, 1, 1] ![0, 0, Nm1] ![0, 0, 0] ⟨3, ![A, B, N]⟩)
    (hu : 0 < (⟨0, ![]⟩ : Shape).numel) (a : Fin A) (b : Fin B) (j : Fin N) :
    Host.reduceWindowAdd ![1, 1, N] ![1, 1, 1] ![0, 0, Nm1] ![0, 0, 0] x init h hu (ix3 a b j) =
      ∑ i ∈ univ.filter (· ≤ j), x (ix3 a b i) := by
  have hj := j.isLt
  unfold Host.reduceWindowAdd
  rw [Ideal.hostReduceWindowAdd_def]
  unfold Ideal.hostReduceWindowAdd Host.reduceWindow
  dsimp only
  rw [hinit, foldl_add, zero_add, ← Fin.sum_univ_def]
  refine Eq.trans ?_ ((sum_window (fun i => if h : i < N then x (ix3 a b ⟨i, h⟩) else 0) N j.val hj).trans
    (sum_first (fun i => x (ix3 a b i)) j))
  rw [← Fin.sum_univ_eq_sum_range (fun n => if N - 1 ≤ j.val + n then
    (if h : j.val + n - (N - 1) < N then x (ix3 a b ⟨j.val + n - (N - 1), h⟩) else 0) else 0) N]
  refine Fintype.sum_equiv (finCongr (numel_window N)) _ _ fun n => ?_
  have hn : n.val < N := (n.cast (numel_window N)).isLt
  have w0 : ((⟨3, ![1, 1, N]⟩ : Shape).rowMajor.symm n 0).val = 0 := by rw [window_at]; rfl
  have w1 : ((⟨3, ![1, 1, N]⟩ : Shape).rowMajor.symm n 1).val = 0 := by rw [window_at]; rfl
  have w2 : ((⟨3, ![1, 1, N]⟩ : Shape).rowMajor.symm n 2).val = n.val := by rw [window_at]; rfl
  show _ = if N - 1 ≤ j.val + n.val then
    (if h : j.val + n.val - (N - 1) < N then x (ix3 a b ⟨j.val + n.val - (N - 1), h⟩) else 0) else 0
  split
  · next hin =>
    have h2 := hin 2
    change Nm1 ≤ j.val * 1 + ((⟨3, ![1, 1, N]⟩ : Shape).rowMajor.symm n 2).val
      ∧ j.val * 1 + ((⟨3, ![1, 1, N]⟩ : Shape).rowMajor.symm n 2).val - Nm1 < N at h2
    rw [w2] at h2
    rw [if_pos (by omega), dif_pos (by omega)]
    refine congrArg x (funext fun c => Fin.ext ?_)
    match c with
    | ⟨0, _⟩ =>
      show a.val * 1 + ((⟨3, ![1, 1, N]⟩ : Shape).rowMajor.symm n 0).val - 0 = a.val
      rw [w0]; omega
    | ⟨1, _⟩ =>
      show b.val * 1 + ((⟨3, ![1, 1, N]⟩ : Shape).rowMajor.symm n 1).val - 0 = b.val
      rw [w1]; omega
    | ⟨2, _⟩ =>
      show j.val * 1 + ((⟨3, ![1, 1, N]⟩ : Shape).rowMajor.symm n 2).val - Nm1 = j.val + n.val - (N - 1)
      rw [w2]; omega
  · next hin =>
    have ha := a.isLt
    have hb := b.isLt
    rw [if_neg fun hle => hin fun c => by
      match c with
      | ⟨0, _⟩ =>
        show 0 ≤ a.val * 1 + ((⟨3, ![1, 1, N]⟩ : Shape).rowMajor.symm n 0).val
          ∧ a.val * 1 + ((⟨3, ![1, 1, N]⟩ : Shape).rowMajor.symm n 0).val - 0 < A
        rw [w0]; omega
      | ⟨1, _⟩ =>
        show 0 ≤ b.val * 1 + ((⟨3, ![1, 1, N]⟩ : Shape).rowMajor.symm n 1).val
          ∧ b.val * 1 + ((⟨3, ![1, 1, N]⟩ : Shape).rowMajor.symm n 1).val - 0 < B
        rw [w1]; omega
      | ⟨2, _⟩ =>
        show Nm1 ≤ j.val * 1 + ((⟨3, ![1, 1, N]⟩ : Shape).rowMajor.symm n 2).val
          ∧ j.val * 1 + ((⟨3, ![1, 1, N]⟩ : Shape).rowMajor.symm n 2).val - Nm1 < N
        rw [w2]; omega]

end Cert.Proof.Cumsum

end

end
-- ==== Proof.SortRead.lean ====
/- A row sorted by "less than" along the last axis: the row through a bijection of positions, in ascending order. And the
   number of set bits of a row of bits, and one entry taken from each row. -/
module

public import Idealize.ShloMosaic.PureOps.Ideal
public import Idealize.ShloMosaic.PureOps.Ideal.Laws
public import Idealize.ShloMosaic.Lib.Pointwise
public import Idealize.ShloMosaic.Lib.IdealHost
public import Idealize.ShloMosaic.Lib.SortFacts
public import Idealize.ShloMosaic.Lib.WordSum
public import Idealize.ShloMosaic.Lib.ValueIdxCore

@[expose] public section

noncomputable section

namespace Cert.Proof.SortRead

open Finset Idealize.ShloMosaic

variable {A B N : ℕ}

/-- A sorted row is the row through a bijection of positions, no later entry below an earlier one. -/
theorem sort_at (cmp : EReal → EReal → BitVec 1) (hcmp : ∀ l r, cmp l r = BitVec.ofBool (decide (l < r)))
    (x : FVec Ideal ⟨3, ![A, B, N]⟩ .f32) (a : Fin A) (b : Fin B) :
    ∃ σ : Fin N → Fin N, Function.Bijective σ ∧
      (∀ j, Host.sort ⟨3, ![A, B, N]⟩ 2 cmp x (ix3 a b j) = x (ix3 a b (σ j))) ∧
      ∀ i j, i < j → x (ix3 a b (σ i)) ≤ x (ix3 a b (σ j)) := by
  have hR : ∀ k k' : Fin N, (cmp (x (ix3 a b k)) (x (ix3 a b k')) == 1#1) = decide (x (ix3 a b k) < x (ix3 a b k')) := by
    intro k k'
    rw [hcmp]
    by_cases h : x (ix3 a b k) < x (ix3 a b k') <;> simp [h]
  have hal : ∀ (j k : Fin N), (ix3 a b j : (⟨3, ![A, B, N]⟩ : Shape).Idx).along 2 k = ix3 a b k := by
    intro j k
    funext c
    match c with
    | ⟨0, _⟩ => rfl
    | ⟨1, _⟩ => rfl
    | ⟨2, _⟩ => rfl
  refine ⟨sortedFrom fun k k' => decide (x (ix3 a b k) < x (ix3 a b k')),
    ⟨sortedFrom_injective _, sortedFrom_surjective _⟩, fun j => ?_, fun i j hij => ?_⟩
  · unfold Host.sort
    rw [dif_pos (show 2 < (⟨3, ![A, B, N]⟩ : Shape).rank from Nat.lt_succ_self 2)]
    dsimp only
    refine congrArg x ((hal j _).trans ?_)
    refine congrArg (fun R : Fin N → Fin N → Bool => ix3 a b (sortedFrom R j)) (funext fun k => funext fun k' => ?_)
    refine Eq.trans ?_ (hR k k')
    exact congrArg₂ (fun p q : (⟨3, ![A, B, N]⟩ : Shape).Idx => cmp (x p) (x q) == 1#1) (hal j k) (hal j k')
  · have h := sortedFrom_noInversion (fun k k' => decide (x (ix3 a b k) < x (ix3 a b k')))
      (fun k k' => decide (x (ix3 a b k) < x (ix3 a b k'))) (fun p q hpq => by
        simp only [decide_eq_true_eq, decide_eq_false_iff_not, not_lt] at hpq ⊢
        exact hpq.le) (fun _ _ h => h) (fun p q r hpq hqr => by
        simp only [decide_eq_false_iff_not, not_lt] at hpq hqr ⊢
        exact hqr.trans hpq) i j hij
    simpa only [decide_eq_false_iff_not, not_lt] using h

/-- A fold of word addition from zero is the sum of the words. -/
theorem fold_addi {ι : Type} (S : Finset ι) (f : ι → BitVec 32) : S.fold IntOp.addi (0#32) f = ∑ i ∈ S, f i := by
  classical
  induction S using Finset.induction_on with
  | empty => simp
  | insert a s ha ih =>
    rw [fold_insert ha, sum_insert ha, ih]
    rfl

/-- The sum of widened bits is the number of set bits. -/
theorem fold_count {n : ℕ} (hn : n < 2 ^ 32) (p : Fin n → BitVec 1) (T : Finset (Fin n)) (hT : ∀ i, i ∈ T ↔ p i = 1#1) :
    univ.fold IntOp.addi (0#32) (fun i => BitVec.setWidth 32 (p i)) = BitVec.ofNat 32 T.card := by
  classical
  have hp : ∀ i, (BitVec.setWidth 32 (p i)).toNat = if i ∈ T then 1 else 0 := by
    intro i
    have hb : ∀ v : BitVec 1, (BitVec.setWidth 32 v).toNat = if v = 1#1 then 1 else 0 := by decide
    rw [hb]
    simp only [hT i]
  have hs : ∑ i, (BitVec.setWidth 32 (p i)).toNat = T.card := by
    rw [sum_congr rfl fun i _ => hp i, sum_ite_mem, univ_inter, sum_const, smul_eq_mul, mul_one]
  have hc : T.card ≤ n := by simpa using card_le_univ T
  rw [fold_addi]
  refine BitVec.eq_of_toNat_eq ?_
  rw [WordSum.toNat_sum _ _ (by rw [hs]; omega), hs, BitVec.toNat_ofNat, Nat.mod_eq_of_lt (by omega)]

/-- The dimension numbers of one entry taken from each row of a stack of matrices. -/
abbrev takeDims (A B N : ℕ) (wf : GatherDims.WF ⟨3, ![A, B, N]⟩ ⟨4, ![A, B, 1, 1]⟩ ⟨3, ![A, B, 1]⟩ [] [2] [0, 1] [2] [0, 1] 3 ![1, 1, 1]) :
    GatherDims ⟨3, ![A, B, N]⟩ ⟨4, ![A, B, 1, 1]⟩ ⟨3, ![A, B, 1]⟩ where
  offsetDims := []
  collapsedSliceDims := [2]
  operandBatchingDims := [0, 1]
  startIndicesBatchingDims := [0, 1]
  startIndexMap := [2]
  indexVectorDim := 3
  sliceSizes := ![1, 1, 1]
  wf := wf

/-- One entry taken from each row: the row's entry at the index word, read signed and kept inside the row. -/
theorem take_at (hN : 0 < N) (wf : GatherDims.WF ⟨3, ![A, B, N]⟩ ⟨4, ![A, B, 1, 1]⟩ ⟨3, ![A, B, 1]⟩ [] [2] [0, 1] [2] [0, 1] 3 ![1, 1, 1])
    (x : FVec Ideal ⟨3, ![A, B, N]⟩ .f32) (idx : IVec ⟨4, ![A, B, 1, 1]⟩ 32) (a : Fin A) (b : Fin B) :
    Host.gather (takeDims A B N wf) x idx (ix3 a b (0 : Fin 1)) =
      x (ix3 a b ⟨min (idx (ix4 a b (0 : Fin 1) (0 : Fin 1))).toInt.toNat (N - 1), by omega⟩) := by
  unfold Host.gather
  congr 1
  funext c
  refine Fin.ext ?_
  show (takeDims A B N wf).start (ix3 a b (0 : Fin 1)) idx c + (takeDims A B N wf).batchCoord (ix3 a b (0 : Fin 1)) c
      + (takeDims A B N wf).offCoord (ix3 a b (0 : Fin 1)) c = _
  have hc : c = 0 ∨ c = 1 ∨ c = 2 := by
    match c with
    | ⟨0, _⟩ => exact Or.inl rfl
    | ⟨1, _⟩ => exact Or.inr (Or.inl rfl)
    | ⟨2, _⟩ => exact Or.inr (Or.inr rfl)
  have m0 : (0 : Fin 3) ∈ ([0, 1] : List (Fin 3)) := by decide
  have m1 : (1 : Fin 3) ∈ ([0, 1] : List (Fin 3)) := by decide
  have m2 : (2 : Fin 3) ∈ ([2] : List (Fin 3)) := by decide
  rcases hc with rfl | rfl | rfl
  · rw [GatherDims.start_batching _ _ _ _ m0,
      GatherDims.offCoord_eq_zero _ _ _ (fun h => ((GatherDims.mem_sKept _ _).mp h).2 m0)]
    simp only [Nat.zero_add, Nat.add_zero]
    unfold GatherDims.batchCoord
    rw [dif_pos m0]
    rfl
  · rw [GatherDims.start_batching _ _ _ _ m1,
      GatherDims.offCoord_eq_zero _ _ _ (fun h => ((GatherDims.mem_sKept _ _).mp h).2 m1)]
    simp only [Nat.zero_add, Nat.add_zero]
    unfold GatherDims.batchCoord
    rw [dif_pos m1]
    rfl
  · rw [GatherDims.batchCoord_eq_zero _ _ _ (fun h => by revert h; show ¬ (2 : Fin 3) ∈ ([0, 1] : List (Fin 3)); decide),
      GatherDims.offCoord_eq_zero _ _ _ (fun h => ((GatherDims.mem_sKept _ _).mp h).1 m2)]
    simp only [Nat.add_zero]
    unfold GatherDims.start
    rw [dif_pos (show (2 : Fin 3) ∈ (takeDims A B N wf).startIndexMap from m2)]
    have hsi : (takeDims A B N wf).siIdx (ix3 a b (0 : Fin 1)) ⟨List.idxOf (2 : Fin 3) (takeDims A B N wf).startIndexMap,
        List.idxOf_lt_length_iff.2 m2⟩ = ix4 a b (0 : Fin 1) (0 : Fin 1) := by
      funext e; refine Fin.ext ?_
      match e with
      | ⟨0, _⟩ => rfl
      | ⟨1, _⟩ => rfl
      | ⟨2, _⟩ => rfl
      | ⟨3, _⟩ => rfl
    rw [hsi]
    rfl

end Cert.Proof.SortRead

end

end
-- ==== Proof.Sparse.lean ====
/- The real mathematics of the sparsemax threshold of one finite row: the amount by which the row exceeds a level, the
   threshold at which that amount is one, the polish step, and the bisection. Nothing here knows of a program. -/
module

public import Mathlib.Analysis.SpecialFunctions.Pow.Real
public import Mathlib.Topology.Order.IntermediateValue
public import Mathlib.Tactic.Linarith
public import Mathlib.Tactic.FieldSimp
public import Mathlib.Tactic.Ring
public import Mathlib.Tactic.Positivity

@[expose] public section

noncomputable section

namespace Cert.Proof.Sparse

open Finset

variable {ι : Type} [Fintype ι]

/-- The amount by which the row `z` exceeds the level `t`, summed over the row. -/
def excess (z : ι → ℝ) (t : ℝ) : ℝ := ∑ i, max (z i - t) 0

/-- The places where the row is above the level `t`. -/
def above (z : ι → ℝ) (t : ℝ) : Finset ι := univ.filter fun i => t < z i

/-- The places where the row lies strictly between the levels `t` and `u`. -/
def between (z : ι → ℝ) (t u : ℝ) : Finset ι := univ.filter fun i => t < z i ∧ z i < u

/-- One polish step: the level that would be the threshold if exactly the places above `t` were its support. -/
def polish (z : ι → ℝ) (t : ℝ) : ℝ := ((∑ i ∈ above z t, z i) - 1) / ((above z t).card : ℝ)

/-- Membership in `above`. -/
theorem mem_above {z : ι → ℝ} {t : ℝ} {i : ι} : i ∈ above z t ↔ t < z i := by simp [above]

/-- Membership in `between`. -/
theorem mem_between {z : ι → ℝ} {t u : ℝ} {i : ι} : i ∈ between z t u ↔ t < z i ∧ z i < u := by simp [between]

/-- Only the places above the level contribute to the excess. -/
theorem excess_eq_sum (z : ι → ℝ) (t : ℝ) : excess z t = ∑ i ∈ above z t, (z i - t) := by
  unfold excess above
  rw [sum_filter]
  refine sum_congr rfl fun i _ => ?_
  split_ifs with h
  · exact max_eq_left (by linarith)
  · exact max_eq_right (by linarith)

/-- The excess as the sum of the support less the level times its size. -/
theorem excess_eq (z : ι → ℝ) (t : ℝ) : excess z t = (∑ i ∈ above z t, z i) - (above z t).card * t := by
  rw [excess_eq_sum, sum_sub_distrib, sum_const, nsmul_eq_mul]

/-- Any set of places gives at most the excess. -/
theorem sum_le_excess (z : ι → ℝ) (t : ℝ) (S : Finset ι) : ∑ i ∈ S, (z i - t) ≤ excess z t := by
  calc ∑ i ∈ S, (z i - t) ≤ ∑ i ∈ S, max (z i - t) 0 := sum_le_sum fun i _ => le_max_left _ _
    _ ≤ excess z t := sum_le_sum_of_subset_of_nonneg (subset_univ _) fun i _ _ => le_max_right _ _

/-- A set that holds every place above the level, and only places not below it, gives the whole excess. -/
theorem sum_eq_excess (z : ι → ℝ) (t : ℝ) (S : Finset ι) (h1 : ∀ i ∈ S, t ≤ z i) (h2 : ∀ i, t < z i → i ∈ S) :
    ∑ i ∈ S, (z i - t) = excess z t := by
  rw [excess_eq_sum]
  refine (sum_subset (fun i hi => h2 i (mem_above.1 hi)) fun i hi hn => ?_).symm
  have := h1 i hi
  have h3 : ¬ t < z i := fun h => hn (mem_above.2 h)
  linarith

/-- The excess does not grow with the level. -/
theorem excess_antitone (z : ι → ℝ) : Antitone (excess z) := fun _ _ h =>
  sum_le_sum fun _ _ => max_le_max (by linarith) le_rfl

/-- The excess is continuous in the level. -/
theorem continuous_excess (z : ι → ℝ) : Continuous (excess z) := by unfold excess; fun_prop

/-- Where the excess is positive, some place is above the level. -/
theorem above_nonempty {z : ι → ℝ} {t : ℝ} (h : 0 < excess z t) : (above z t).Nonempty := by
  by_contra hn
  rw [not_nonempty_iff_eq_empty] at hn
  rw [excess_eq_sum, hn, sum_empty] at h
  exact lt_irrefl _ h

/-- Above a level of positive excess the excess is strictly smaller. -/
theorem excess_lt {z : ι → ℝ} {t u : ℝ} (h : 0 < excess z t) (htu : t < u) : excess z u < excess z t := by
  obtain ⟨i, hi⟩ := above_nonempty h
  refine sum_lt_sum (fun j _ => max_le_max (by linarith) le_rfl) ⟨i, mem_univ i, ?_⟩
  have := mem_above.1 hi
  rw [max_eq_left (a := z i - t) (by linarith)]
  exact max_lt (by linarith) (by linarith)

section threshold

variable {z : ι → ℝ} {τ : ℝ} (hτ : excess z τ = 1)
include hτ

/-- A level is at most the threshold exactly when its excess is at least one. -/
theorem le_iff {t : ℝ} : t ≤ τ ↔ 1 ≤ excess z t := by
  constructor
  · intro h; rw [← hτ]; exact excess_antitone z h
  · intro h
    by_contra hn
    have := excess_lt (z := z) (by rw [hτ]; exact one_pos) (not_le.1 hn)
    linarith

/-- A level is above the threshold exactly when its excess is less than one. -/
theorem lt_iff {t : ℝ} : τ < t ↔ excess z t < 1 := by
  rw [← not_le, le_iff hτ, not_le]

/-- Only the threshold has excess one. -/
theorem eq_of_excess {t : ℝ} (h : excess z t = 1) : t = τ :=
  le_antisymm ((le_iff hτ).2 h.ge) ((le_iff h).2 hτ.ge)

/-- Up to the threshold some place is above the level. -/
theorem above_card_pos {t : ℝ} (h : t ≤ τ) : 0 < (above z t).card :=
  card_pos.2 (above_nonempty (lt_of_lt_of_le one_pos ((le_iff hτ).1 h)))

/-- A polish step from a level at most the threshold does not go down. -/
theorem le_polish {t : ℝ} (h : t ≤ τ) : t ≤ polish z t := by
  have hc : (0 : ℝ) < (above z t).card := by exact_mod_cast above_card_pos hτ h
  have h1 := (le_iff hτ).1 h
  rw [excess_eq] at h1
  unfold polish
  rw [le_div_iff₀ hc]
  linarith

/-- A polish step from a level at most the threshold does not pass it. -/
theorem polish_le {t : ℝ} (h : t ≤ τ) : polish z t ≤ τ := by
  have hc : (0 : ℝ) < (above z t).card := by exact_mod_cast above_card_pos hτ h
  have h1 := sum_le_excess z τ (above z t)
  rw [hτ, sum_sub_distrib, sum_const, nsmul_eq_mul] at h1
  unfold polish
  rw [div_le_iff₀ hc]
  linarith

/-- With no place strictly between the level and the threshold, one polish step lands on the threshold. -/
theorem polish_eq {t : ℝ} (h : t ≤ τ) (hb : between z t τ = ∅) : polish z t = τ := by
  have hc : (0 : ℝ) < (above z t).card := by exact_mod_cast above_card_pos hτ h
  have h1 : ∑ i ∈ above z t, (z i - τ) = excess z τ := by
    refine sum_eq_excess z τ _ (fun i hi => ?_) fun i hi => mem_above.2 (lt_of_le_of_lt h hi)
    by_contra hn
    have : i ∈ between z t τ := mem_between.2 ⟨mem_above.1 hi, not_le.1 hn⟩
    rw [hb] at this
    exact absurd this (notMem_empty i)
  rw [hτ, sum_sub_distrib, sum_const, nsmul_eq_mul] at h1
  unfold polish
  rw [div_eq_iff hc.ne']
  linarith

/-- With some place strictly between the level and the threshold, a polish step leaves fewer of them. -/
theorem between_polish_lt {t : ℝ} (h : t ≤ τ) (hb : (between z t τ).Nonempty) :
    (between z (polish z t) τ).card < (between z t τ).card := by
  have hle := le_polish hτ h
  have hge := polish_le hτ h
  have hsub : between z (polish z t) τ ⊆ between z t τ := fun i hi =>
    mem_between.2 ⟨lt_of_le_of_lt hle (mem_between.1 hi).1, (mem_between.1 hi).2⟩
  refine card_lt_card (hsub.ssubset_of_ne fun heq => ?_)
  have hlt : polish z t < τ := by
    obtain ⟨i, hi⟩ := heq ▸ hb
    exact (mem_between.1 hi).1.trans (mem_between.1 hi).2
  have hab : above z (polish z t) = above z t := by
    ext i
    rw [mem_above, mem_above]
    refine ⟨fun hi => lt_of_le_of_lt hle hi, fun hi => ?_⟩
    by_cases hz : z i < τ
    · have : i ∈ between z (polish z t) τ := heq ▸ mem_between.2 ⟨hi, hz⟩
      exact (mem_between.1 this).1
    · exact lt_of_lt_of_le hlt (not_lt.1 hz)
  have hc : ((above z t).card : ℝ) ≠ 0 := by
    have := above_card_pos hτ h
    exact_mod_cast this.ne'
  have h1 : excess z (polish z t) = 1 := by
    rw [excess_eq, hab]
    unfold polish
    field_simp
    ring
  exact hlt.ne (eq_of_excess hτ h1)

/-- As many polish steps as there are places strictly between the level and the threshold, and one more, land on the
    threshold. -/
theorem polish_iterate (n : ℕ) : ∀ t : ℝ, t ≤ τ → (between z t τ).card ≤ n → (polish z)^[n + 1] t = τ := by
  induction n with
  | zero =>
    intro t h hb
    exact polish_eq hτ h (card_eq_zero.1 (Nat.le_zero.1 hb))
  | succ n ih =>
    intro t h hb
    rw [Function.iterate_succ_apply]
    refine ih _ (polish_le hτ h) ?_
    rcases (between z t τ).eq_empty_or_nonempty with h0 | h0
    · rw [polish_eq hτ h h0]
      have : between z τ τ = ∅ := by
        ext i; simp only [mem_between, notMem_empty, iff_false]
        exact fun hi => lt_irrefl _ (hi.1.trans hi.2)
      rw [this, card_empty]
      exact Nat.zero_le n
    · have := between_polish_lt hτ h h0
      omega

/-- Three polish steps land on the threshold when at most two places lie strictly between. -/
theorem polish_three {t : ℝ} (h : t ≤ τ) (hb : (between z t τ).card ≤ 2) :
    polish z (polish z (polish z t)) = τ := polish_iterate hτ 2 t h hb

end threshold

/-- A row with greatest entry `m` has a threshold at least `m - 1` and below `m`. -/
theorem exists_threshold {z : ι → ℝ} {m : ℝ} (hle : ∀ i, z i ≤ m) (hm : ∃ i, z i = m) :
    ∃ τ, excess z τ = 1 ∧ m - 1 ≤ τ ∧ τ < m := by
  obtain ⟨i, hi⟩ := hm
  have h0 : excess z m = 0 := sum_eq_zero fun j _ => max_eq_right (by linarith [hle j])
  have h1 : 1 ≤ excess z (m - 1) := by
    have := sum_le_excess z (m - 1) {i}
    rw [sum_singleton] at this
    linarith
  obtain ⟨τ, ⟨h2, h3⟩, h4⟩ := intermediate_value_Icc' (by linarith : m - 1 ≤ m)
    (continuous_excess z).continuousOn (show (1 : ℝ) ∈ Set.Icc (excess z m) (excess z (m - 1)) from ⟨by linarith, h1⟩)
  refine ⟨τ, h4, h2, lt_of_le_of_ne h3 fun h => ?_⟩
  rw [h, h0] at h4
  exact zero_ne_one h4

/-- What one knows of a bracket after `k` halvings of `[b, b + 1]` towards the threshold. -/
def Bracket (b τ : ℝ) (k : ℕ) (lo hi : ℝ) : Prop :=
  ∃ a : ℤ, lo = b + a / 2 ^ k ∧ hi = b + (a + 1) / 2 ^ k ∧ lo ≤ τ ∧ τ < hi

/-- The bracket before the first halving. -/
theorem bracket_zero {b τ : ℝ} (h1 : b ≤ τ) (h2 : τ < b + 1) : Bracket b τ 0 b (b + 1) :=
  ⟨0, by simp, by simp, h1, h2⟩

/-- Halving a bracket: the middle becomes the lower end where it is at most the threshold, else the upper end. -/
theorem bracket_step {b τ lo hi : ℝ} {k : ℕ} (h : Bracket b τ k lo hi) :
    (1 / 2 * (lo + hi) ≤ τ → Bracket b τ (k + 1) (1 / 2 * (lo + hi)) hi) ∧
    (¬ 1 / 2 * (lo + hi) ≤ τ → Bracket b τ (k + 1) lo (1 / 2 * (lo + hi))) := by
  obtain ⟨a, rfl, rfl, h1, h2⟩ := h
  have hp : (2 : ℝ) ^ k ≠ 0 := by positivity
  refine ⟨fun hm => ⟨2 * a + 1, ?_, ?_, hm, h2⟩, fun hm => ⟨2 * a, ?_, ?_, h1, not_le.1 hm⟩⟩
  all_goals
    push_cast
    field_simp
    ring

/-- After `k` halvings the lower end is the threshold rounded down to a multiple of `2 ^ (-k)` above `b`. -/
theorem bracket_floor {b τ lo hi : ℝ} {k : ℕ} (h : Bracket b τ k lo hi) :
    lo = b + (⌊(τ - b) * 2 ^ k⌋ : ℝ) / 2 ^ k := by
  obtain ⟨a, rfl, rfl, h1, h2⟩ := h
  have hp : (0 : ℝ) < 2 ^ k := by positivity
  have : ⌊(τ - b) * 2 ^ k⌋ = a := by
    rw [Int.floor_eq_iff]
    constructor
    · rw [← div_le_iff₀ hp]; linarith
    · rw [← lt_div_iff₀ hp]; linarith
  rw [this]

/-- The ends of a bracket are at least its start, and the threshold is within `2 ^ (-k)` of its lower end. -/
theorem bracket_bounds {b τ lo hi : ℝ} {k : ℕ} (h : Bracket b τ k lo hi) (hb : b ≤ τ) :
    b ≤ lo ∧ lo ≤ τ ∧ τ < hi ∧ τ < lo + 1 / 2 ^ k := by
  obtain ⟨a, rfl, rfl, h1, h2⟩ := h
  have hp : (0 : ℝ) < 2 ^ k := by positivity
  have ha : (-1 : ℝ) < a := by
    have h3 : 0 < (a + 1 : ℝ) / 2 ^ k := by linarith
    have := (div_pos_iff_of_pos_right hp).1 h3
    linarith
  have ha' : (0 : ℤ) ≤ a := by
    have : (-1 : ℤ) < a := by exact_mod_cast ha
    omega
  have ha'' : (0 : ℝ) ≤ a := by exact_mod_cast ha'
  have := div_nonneg ha'' hp.le
  refine ⟨by linarith, h1, h2, ?_⟩
  have h4 : (a + 1 : ℝ) / 2 ^ k = a / 2 ^ k + 1 / 2 ^ k := add_div _ _ _
  linarith

end Cert.Proof.Sparse

end

end
-- ==== Proof.RowFn.lean ====
/- A row of extended reals with a finite greatest entry, and the row functions of the kernel read on it: each meets the
   real mathematics of Sparse.lean on a row of reals that agrees with the given one wherever it matters. -/
module

public import proofs.«01_k».proof.Proof.Sparse
public import Idealize.ShloMosaic.PureOps.Ideal
public import Idealize.ShloMosaic.PureOps.Ideal.Laws
public import Idealize.ShloMosaic.Lib.IdealHost

@[expose] public section

noncomputable section

namespace Cert.Proof.RowFn

open Finset Idealize.ShloMosaic

variable {ι : Type} [Fintype ι]

/-- The amount by which the row exceeds a level. -/
def excess (w : ι → EReal) (t : EReal) : EReal := ∑ i, max (w i - t) 0

/-- The sum of the entries above a level. -/
def total (w : ι → EReal) (t : EReal) : EReal := ∑ i, if t < w i then w i else 0

/-- The number of entries above a level. -/
def count (w : ι → EReal) (t : EReal) : EReal := ∑ i, if t < w i then 1 else 0

/-- The greatest entry. -/
def top (w : ι → EReal) : EReal := univ.fold max ⊥ w

/-- The f32 word of one half. -/
def half : EReal := Ideal.ofBits .f32 0x3F000000#32

/-- The middle of a bracket. -/
def mid (p : EReal × EReal) : EReal := half * (p.1 + p.2)

/-- One halving of a bracket. -/
def halve (w : ι → EReal) (p : EReal × EReal) : EReal × EReal :=
  (if 1 ≤ excess w (mid p) then mid p else p.1, if 1 ≤ excess w (mid p) then p.2 else mid p)

/-- The bracket after `k` halvings, from the greatest entry less one to the greatest entry. -/
def bracket (w : ι → EReal) : ℕ → EReal × EReal
  | 0 => (top w - 1, top w)
  | k + 1 => halve w (bracket w k)

/-- One polish step, its count bounded below by one. -/
def polish (w : ι → EReal) (t : EReal) : EReal := Ideal.div (total w t - 1) (max (count w t) 1)

/-- The level the kernel subtracts: three polish steps from the lower end after four halvings. -/
def level (w : ι → EReal) : EReal := polish w (polish w (polish w (bracket w 4).1))

/-- The word of one half is one half. -/
theorem half_eq : half = ((1 / 2 : ℝ) : EReal) := by
  unfold half
  simp [Ideal.ofBits, Ideal.ieee, -EReal.coe_mul]; norm_num

/-- A row of reals `z` with greatest entry `m` that equals the row `w` but where `w` is the least extended real; there it is
    anything below `m - 1`. -/
structure Shadow (w : ι → EReal) (z : ι → ℝ) (m : ℝ) : Prop where
  hit : ∀ i, w i = (z i : EReal) ∨ (w i = ⊥ ∧ z i < m - 1)
  le : ∀ i, z i ≤ m
  att : ∃ i, z i = m

/-- Every entry is at most the greatest. -/
theorem le_top (w : ι → EReal) (i : ι) : w i ≤ top w := by
  unfold top
  rw [Finset.le_fold_max]
  exact Or.inr ⟨i, mem_univ i, le_rfl⟩

/-- The greatest entry is at most any bound of the entries. -/
theorem top_le (w : ι → EReal) (b : EReal) (h : ∀ i, w i ≤ b) : top w ≤ b := by
  unfold top
  rw [Finset.fold_max_le]
  exact ⟨bot_le, fun i _ => h i⟩

/-- A greatest entry that is not the least extended real is attained. -/
theorem exists_top (w : ι → EReal) (h : ⊥ < top w) : ∃ i, w i = top w := by
  by_contra hn
  push Not at hn
  have : top w < top w := by
    conv_lhs => unfold top
    rw [Finset.fold_max_lt]
    exact ⟨h, fun i _ => lt_of_le_of_ne (le_top w i) (hn i)⟩
  exact lt_irrefl _ this

/-- A row whose greatest entry is finite has its row of reals. -/
theorem exists_shadow (w : ι → EReal) (hb : ⊥ < top w) (ht : top w < ⊤) :
    ∃ (z : ι → ℝ) (m : ℝ), Shadow w z m ∧ top w = (m : EReal) := by
  have hm : top w = ((top w).toReal : EReal) := (EReal.coe_toReal ht.ne hb.ne').symm
  generalize (top w).toReal = m at hm
  have hz : ∀ i, ∃ x : ℝ, (w i = (x : EReal) ∨ (w i = ⊥ ∧ x < m - 1)) ∧ x ≤ m := by
    intro i
    have hle := le_top w i
    by_cases h0 : w i = ⊥
    · exact ⟨m - 2, Or.inr ⟨h0, by linarith⟩, by linarith⟩
    · have h1 : w i ≠ ⊤ := fun h => by rw [h] at hle; exact absurd (lt_of_le_of_lt hle ht) (lt_irrefl _)
      have h2 : w i = ((w i).toReal : EReal) := (EReal.coe_toReal h1 h0).symm
      refine ⟨(w i).toReal, Or.inl h2, ?_⟩
      rw [h2, hm] at hle
      exact_mod_cast hle
  choose z hz using hz
  refine ⟨z, m, ⟨fun i => (hz i).1, fun i => (hz i).2, ?_⟩, hm⟩
  obtain ⟨i, hi⟩ := exists_top w hb
  refine ⟨i, ?_⟩
  rcases (hz i).1 with h | ⟨h, _⟩
  · rw [h, hm] at hi
    exact_mod_cast hi
  · rw [h] at hi
    exact absurd hb (by rw [← hi]; exact lt_irrefl _)

/-- A finite sum of real values is the real sum. -/
theorem coe_sum (S : Finset ι) (f : ι → ℝ) : ((∑ i ∈ S, f i : ℝ) : EReal) = ∑ i ∈ S, (f i : EReal) := by
  classical
  induction S using Finset.induction_on with
  | empty => simp
  | insert a s ha ih => rw [sum_insert ha, sum_insert ha, EReal.coe_add, ih]

/-- The larger of a real and zero, as an extended real. -/
theorem coe_max (x y : ℝ) : ((max x y : ℝ) : EReal) = max (x : EReal) (y : EReal) :=
  EReal.coe_strictMono.monotone.map_max

section shadow

variable {w : ι → EReal} {z : ι → ℝ} {m : ℝ} (h : Shadow w z m)
include h

/-- The greatest entry of the row is that of its reals. -/
theorem top_eq : top w = (m : EReal) := by
  refine le_antisymm (top_le w _ fun i => ?_) ?_
  · rcases h.hit i with h1 | ⟨h1, _⟩
    · rw [h1]; exact_mod_cast h.le i
    · rw [h1]; exact bot_le
  · obtain ⟨i, hi⟩ := h.att
    have := le_top w i
    rcases h.hit i with h1 | ⟨_, h2⟩
    · rwa [h1, hi] at this
    · linarith

/-- At a level from `m - 1` on, what an entry has above it is what its real has. -/
theorem sub_max {t : ℝ} (ht : m - 1 ≤ t) (i : ι) : max (w i - (t : EReal)) 0 = ((max (z i - t) 0 : ℝ) : EReal) := by
  rcases h.hit i with h1 | ⟨h1, h2⟩
  · rw [h1, coe_max, EReal.coe_sub, EReal.coe_zero]
  · rw [h1, max_eq_right (by linarith : z i - t ≤ 0), EReal.bot_sub, EReal.coe_zero]
    exact max_eq_right bot_le

/-- At a level from `m - 1` on, an entry is above it exactly when its real is. -/
theorem lt_iff {t : ℝ} (ht : m - 1 ≤ t) (i : ι) : (t : EReal) < w i ↔ t < z i := by
  rcases h.hit i with h1 | ⟨h1, h2⟩
  · rw [h1]; exact EReal.coe_lt_coe_iff
  · rw [h1]
    exact iff_of_false not_lt_bot (by linarith)

/-- An entry above a level from `m - 1` on is its real. -/
theorem eq_of_lt {t : ℝ} (ht : m - 1 ≤ t) {i : ι} (hi : t < z i) : w i = (z i : EReal) := by
  rcases h.hit i with h1 | ⟨_, h2⟩
  · exact h1
  · linarith

/-- The excess over a level from `m - 1` on is the reals' excess. -/
theorem excess_eq {t : ℝ} (ht : m - 1 ≤ t) : excess w (t : EReal) = (Sparse.excess z t : EReal) := by
  unfold excess Sparse.excess
  rw [coe_sum]
  exact sum_congr rfl fun i _ => sub_max h ht i

/-- The sum of the entries above a level from `m - 1` on is the reals'. -/
theorem total_eq {t : ℝ} (ht : m - 1 ≤ t) : total w (t : EReal) = ((∑ i ∈ Sparse.above z t, z i : ℝ) : EReal) := by
  unfold total Sparse.above
  rw [sum_filter, coe_sum]
  refine sum_congr rfl fun i _ => ?_
  by_cases hi : t < z i
  · rw [if_pos hi, if_pos ((lt_iff h ht i).2 hi), eq_of_lt h ht hi]
  · rw [if_neg hi, if_neg (fun h' => hi ((lt_iff h ht i).1 h')), EReal.coe_zero]

/-- The number of entries above a level from `m - 1` on is the reals'. -/
theorem count_eq {t : ℝ} (ht : m - 1 ≤ t) : count w (t : EReal) = (((Sparse.above z t).card : ℝ) : EReal) := by
  have : ((Sparse.above z t).card : ℝ) = ∑ i, if t < z i then (1 : ℝ) else 0 := by
    rw [Sparse.above, ← sum_filter, sum_const, nsmul_eq_mul, mul_one]
  rw [this, coe_sum]
  unfold count
  refine sum_congr rfl fun i _ => ?_
  by_cases hi : t < z i
  · rw [if_pos hi, if_pos ((lt_iff h ht i).2 hi), EReal.coe_one]
  · rw [if_neg hi, if_neg (fun h' => hi ((lt_iff h ht i).1 h')), EReal.coe_zero]

/-- The quotient of a polish step without the bound on its count, where the count is positive. -/
theorem div_eq {t : ℝ} (ht : m - 1 ≤ t) (hc : 0 < (Sparse.above z t).card) :
    Ideal.div (total w (t : EReal) - 1) (count w (t : EReal)) = (Sparse.polish z t : EReal) := by
  have hc' : ((Sparse.above z t).card : ℝ) ≠ 0 := by exact_mod_cast hc.ne'
  rw [total_eq h ht, count_eq h ht, Ideal.div_coe hc', ← EReal.coe_one, ← EReal.coe_sub, ← EReal.coe_mul]
  unfold Sparse.polish
  rw [mul_one_div]

/-- A polish step is the reals' where the count is positive. -/
theorem polish_eq {t : ℝ} (ht : m - 1 ≤ t) (hc : 0 < (Sparse.above z t).card) :
    polish w (t : EReal) = (Sparse.polish z t : EReal) := by
  have h1 : (1 : EReal) ≤ count w (t : EReal) := by
    rw [count_eq h ht, ← EReal.coe_one, EReal.coe_le_coe_iff]
    exact_mod_cast hc
  unfold polish
  rw [max_eq_left h1, div_eq h ht hc]

variable {τ : ℝ} (hτ : Sparse.excess z τ = 1) (hm : m - 1 ≤ τ) (hlt : τ < m)
include hτ hm hlt

/-- The kernel's bracket after any number of halvings is a bracket of the threshold. -/
theorem bracket_eq (k : ℕ) : ∃ lo hi : ℝ, bracket w k = ((lo : EReal), (hi : EReal)) ∧
    Sparse.Bracket (m - 1) τ k lo hi := by
  induction k with
  | zero =>
    refine ⟨m - 1, m, ?_, ?_⟩
    · unfold bracket
      rw [top_eq h, EReal.coe_sub, EReal.coe_one]
    · have := Sparse.bracket_zero hm (by linarith : τ < m - 1 + 1)
      rwa [sub_add_cancel] at this
  | succ k ih =>
    obtain ⟨lo, hi, h1, h2⟩ := ih
    have hb := Sparse.bracket_bounds h2 hm
    have hmid : mid (bracket w k) = ((1 / 2 * (lo + hi) : ℝ) : EReal) := by
      unfold mid
      rw [h1, half_eq, EReal.coe_mul, EReal.coe_add]
    have hmm : m - 1 ≤ 1 / 2 * (lo + hi) := by linarith
    have hex : (1 ≤ excess w (mid (bracket w k))) ↔ 1 / 2 * (lo + hi) ≤ τ := by
      rw [hmid, excess_eq h hmm, ← EReal.coe_one, EReal.coe_le_coe_iff, Sparse.le_iff hτ]
    unfold bracket halve
    by_cases hc : 1 / 2 * (lo + hi) ≤ τ
    · exact ⟨_, hi, by rw [if_pos (hex.2 hc), if_pos (hex.2 hc), hmid, h1], (Sparse.bracket_step h2).1 hc⟩
    · exact ⟨lo, _, by rw [if_neg (fun h' => hc (hex.1 h')), if_neg (fun h' => hc (hex.1 h')), hmid, h1],
        (Sparse.bracket_step h2).2 hc⟩

/-- The level the kernel starts to polish from: the threshold rounded down to a sixteenth above `m - 1`. -/
theorem start_eq : (bracket w 4).1 = ((m - 1 + (⌊(τ - (m - 1)) * 16⌋ : ℝ) / 16 : ℝ) : EReal) := by
  obtain ⟨lo, hi, h1, h2⟩ := bracket_eq h hτ hm hlt 4
  have h3 := Sparse.bracket_floor h2
  norm_num at h3
  rw [h1]
  show (lo : EReal) = _
  rw [h3]

end shadow

/-- Three polish steps of a real row. -/
def settle (z : ι → ℝ) (t : ℝ) : ℝ := Sparse.polish z (Sparse.polish z (Sparse.polish z t))

section settle

variable {w : ι → EReal} {z : ι → ℝ} {m τ : ℝ} (h : Shadow w z m) (hτ : Sparse.excess z τ = 1)
include hτ

/-- Three polish steps from a level at most the threshold stay between the two. -/
theorem settle_mem {t : ℝ} (ht : t ≤ τ) : t ≤ settle z t ∧ settle z t ≤ τ := by
  have h1 := Sparse.polish_le hτ ht
  have h2 := Sparse.polish_le hτ h1
  exact ⟨(Sparse.le_polish hτ ht).trans ((Sparse.le_polish hτ h1).trans (Sparse.le_polish hτ h2)), Sparse.polish_le hτ h2⟩

include h

/-- Three of the kernel's polish steps, from a level between `m - 1` and the threshold. -/
theorem polish_three {t : ℝ} (hm : m - 1 ≤ t) (ht : t ≤ τ) :
    polish w (polish w (polish w (t : EReal))) = (settle z t : EReal) := by
  have h1 := Sparse.polish_le hτ ht
  have h2 := Sparse.polish_le hτ h1
  have g1 := Sparse.le_polish hτ ht
  have g2 := Sparse.le_polish hτ h1
  rw [polish_eq h hm (Sparse.above_card_pos hτ ht), polish_eq h (hm.trans g1) (Sparse.above_card_pos hτ h1),
    polish_eq h (hm.trans (g1.trans g2)) (Sparse.above_card_pos hτ h2)]
  rfl

/-- The same steps written without the bound on the count. -/
theorem div_three {t : ℝ} (hm : m - 1 ≤ t) (ht : t ≤ τ) (f : EReal → EReal)
    (hf : ∀ s, f s = Ideal.div (total w s - 1) (count w s)) : f (f (f (t : EReal))) = (settle z t : EReal) := by
  have h1 := Sparse.polish_le hτ ht
  have h2 := Sparse.polish_le hτ h1
  have g1 := Sparse.le_polish hτ ht
  have g2 := Sparse.le_polish hτ h1
  have e1 := (hf (t : EReal)).trans (div_eq h hm (Sparse.above_card_pos hτ ht))
  have e2 := (hf _).trans (div_eq h (hm.trans g1) (Sparse.above_card_pos hτ h1))
  have e3 := (hf _).trans (div_eq h (hm.trans (g1.trans g2)) (Sparse.above_card_pos hτ h2))
  rw [e1, e2, e3]
  rfl

end settle

/-- The threshold rounded down to a sixteenth above `m - 1`. -/
def start (m τ : ℝ) : ℝ := m - 1 + (⌊(τ - (m - 1)) * 16⌋ : ℝ) / 16

/-- The starting level is from `m - 1` on, at most the threshold and within a sixteenth of it. -/
theorem start_bounds {m τ : ℝ} (hm : m - 1 ≤ τ) : m - 1 ≤ start m τ ∧ start m τ ≤ τ ∧ τ < start m τ + 1 / 16 := by
  have h0 : (0 : ℝ) ≤ (⌊(τ - (m - 1)) * 16⌋ : ℝ) := by
    have : (0 : ℤ) ≤ ⌊(τ - (m - 1)) * 16⌋ := Int.floor_nonneg.2 (by nlinarith)
    exact_mod_cast this
  have h1 := Int.floor_le ((τ - (m - 1)) * 16)
  have h2 := Int.lt_floor_add_one ((τ - (m - 1)) * 16)
  unfold start
  exact ⟨by linarith, by linarith, by linarith⟩

/-- The kernel's level is three polish steps from the starting level. -/
theorem level_eq {w : ι → EReal} {z : ι → ℝ} {m τ : ℝ} (h : Shadow w z m) (hτ : Sparse.excess z τ = 1) (hm : m - 1 ≤ τ)
    (hlt : τ < m) : level w = (settle z (start m τ) : EReal) := by
  have hb := start_bounds hm
  unfold level
  rw [start_eq h hτ hm hlt]
  exact polish_three h hτ hb.1 hb.2.1

/-- With at most two entries strictly between the threshold less a sixteenth and the threshold, the kernel's level is the
    threshold. -/
theorem settle_eq_of_few {z : ι → ℝ} {m τ : ℝ} (hτ : Sparse.excess z τ = 1) (hm : m - 1 ≤ τ)
    (hf : (Sparse.between z (τ - 1 / 16) τ).card ≤ 2) : settle z (start m τ) = τ := by
  have hb := start_bounds hm
  refine Sparse.polish_three hτ hb.2.1 (le_trans (card_le_card fun i hi => ?_) hf)
  have := Sparse.mem_between.1 hi
  exact Sparse.mem_between.2 ⟨by linarith, this.2⟩

end Cert.Proof.RowFn

end

end
-- ==== Proof.KernelRowA.lean ====
/- The first half of the kernel's body, row by row over the extended reals: the greatest entry and the first three
   halvings of the bracket. -/
module

public import proofs.«01_k».proof.Proof.Gen.KernelIdeal.Frame
public import proofs.«01_k».proof.Proof.RowFn
public import Idealize.ShloMosaic.Lib.Pointwise

@[expose] public section

set_option maxRecDepth 16384

noncomputable section

namespace Cert.Proof.KernelRow

open Idealize.ShloMosaic Cert.KernelIdeal Cert.KernelIdeal.Gen Cert.Proof.RowFn

/-- Row `r` of a block, each entry taken from zero. -/
def neg (x : Vec Ideal S512x2048 .f32) (r : Fin 512) : Fin 2048 → EReal := fun k => 0 - x (ix2 r k)

/-- A choice by a decided proposition is the conditional. -/
theorem select_ofBool {α : Type} (P : Prop) [Decidable P] (a b : α) :
    Scalar.select (BitVec.ofBool (decide P)) a b = if P then a else b := by
  by_cases h : P <;> simp [Scalar.select, h]

/-- The word of minus infinity is the least extended real. -/
theorem ofBits_bot : Ideal.ofBits FTy.f32 4286578688#32 = ⊥ := by
  simp [Ideal.ofBits, Ideal.ieee, -EReal.coe_mul]

variable (x : Vec Ideal S512x2048 .f32) (r : Fin 512) (u : Fin 1)

/-- The negated block. -/
theorem pay2_at (k : Fin 2048) : k0_pay2 x (ix2 r k) = neg x r k := by
  pointwise [k0_pay2]
  rfl

/-- The greatest entry of a row. -/
theorem pay3_at : k0_pay3 x (ix2 r u) = top (neg x r) := by
  pointwise [k0_pay3]
  simp only [pay2_at, ofBits_bot]
  rfl

/-- The lower end of the first bracket. -/
theorem pay4_at : k0_pay4 x (ix2 r u) = (bracket (neg x r) 0).1 := by
  pointwise [k0_pay4]
  simp only [pay3_at]
  rfl

/-- The upper end of the first bracket. -/
theorem pay3_at' : k0_pay3 x (ix2 r u) = (bracket (neg x r) 0).2 := pay3_at x r u

/-- The middle of the first bracket. -/
theorem pay5_at : k0_pay5 x (ix2 r u) = mid (bracket (neg x r) 0) := by
  pointwise [k0_pay5]
  simp only [pay4_at, pay3_at']
  rfl

/-- Whether the excess over the first middle reaches one. -/
theorem pay6_at : k0_pay6 x (ix2 r u) =
    BitVec.ofBool (decide (1 ≤ excess (neg x r) (mid (bracket (neg x r) 0)))) := by
  pointwise [k0_pay6]
  simp only [pay2_at, pay5_at]
  rfl

/-- The lower end after one halving. -/
theorem pay7_at : k0_pay7 x (ix2 r u) = (bracket (neg x r) 1).1 := by
  pointwise [k0_pay7]
  simp only [pay6_at, pay5_at, pay4_at, select_ofBool]
  rfl

/-- The upper end after one halving. -/
theorem pay8_at : k0_pay8 x (ix2 r u) = (bracket (neg x r) 1).2 := by
  pointwise [k0_pay8]
  simp only [pay6_at, pay5_at, pay3_at', select_ofBool]
  rfl

/-- The middle of the second bracket. -/
theorem pay9_at : k0_pay9 x (ix2 r u) = mid (bracket (neg x r) 1) := by
  pointwise [k0_pay9]
  simp only [pay7_at, pay8_at]
  rfl

/-- Whether the excess over the second middle reaches one. -/
theorem pay10_at : k0_pay10 x (ix2 r u) =
    BitVec.ofBool (decide (1 ≤ excess (neg x r) (mid (bracket (neg x r) 1)))) := by
  pointwise [k0_pay10]
  simp only [pay2_at, pay9_at]
  rfl

/-- The lower end after two halvings. -/
theorem pay11_at : k0_pay11 x (ix2 r u) = (bracket (neg x r) 2).1 := by
  pointwise [k0_pay11]
  simp only [pay10_at, pay9_at, pay7_at, select_ofBool]
  rfl

/-- The upper end after two halvings. -/
theorem pay12_at : k0_pay12 x (ix2 r u) = (bracket (neg x r) 2).2 := by
  pointwise [k0_pay12]
  simp only [pay10_at, pay9_at, pay8_at, select_ofBool]
  rfl

/-- The middle of the third bracket. -/
theorem pay13_at : k0_pay13 x (ix2 r u) = mid (bracket (neg x r) 2) := by
  pointwise [k0_pay13]
  simp only [pay11_at, pay12_at]
  rfl

/-- The excess over the third middle. -/
theorem pay14_at : k0_pay14 x (ix2 r u) = excess (neg x r) (mid (bracket (neg x r) 2)) := by
  pointwise [k0_pay14]
  simp only [pay2_at, pay13_at]
  rfl

end Cert.Proof.KernelRow

end

end
-- ==== Proof.RefStages.lean ====
/- The reference's array steps up to its threshold, named, and each read at an index. -/
module

public import proofs.«01_k».proof.Proof.Gen.ReferenceIdeal.Run
public import proofs.«01_k».proof.Proof.Cumsum
public import proofs.«01_k».proof.Proof.SortRead
public import proofs.«01_k».proof.Proof.KernelRowA

@[expose] public section

set_option maxRecDepth 16384

noncomputable section

namespace Cert.Proof.Ref

open Finset Idealize.ShloMosaic Cert.ReferenceIdeal Cert.ReferenceIdeal.Gen

/-- The negated input with every row in descending order. -/
def sorted (x : FVec Ideal S2x4096x2048 .f32) : FVec Ideal S2x4096x2048 .f32 :=
  Host.negf (Host.sort S2x4096x2048 2 comparator_f32_d2 (Host.negf (Host.negf x)))

/-- The running sums of every row. -/
def sums (s : FVec Ideal S2x4096x2048 .f32) : FVec Ideal S2x4096x2048 .f32 :=
  Host.reduceWindowAdd ![1, 1, 2048] ![1, 1, 1] ![0, 0, 2047] ![0, 0, 0] s
    (broadcastInDim S_ ![] bcast_S_S_ (constant S_ .f32 0x00000000#32))
    reduceWindows_S2x4096x2048_S2x4096x2048_w1s1p0_0_w1s1p0_0_w2048s1p2047_0 h_S_

/-- The bits of the test that marks the support. -/
def support (s c : FVec Ideal S2x4096x2048 .f32) : IVec S2x4096x2048 1 :=
  cmpf .ogt (addf (broadcastInDim S2x4096x2048 ![] bcast_S_S2x4096x2048 (constant S_ .f32 0x3F800000#32))
    (mulf (broadcastInDim S2x4096x2048 ![0, 1, 2] bcast_S1x1x2048_S2x4096x2048_0_1_2
      (broadcastInDim S1x1x2048 ![2] bcast_S2048_S1x1x2048_2
        (addf (broadcastInDim S2048 ![] bcast_S_S2048 (constant S_ .f32 0x3F800000#32)) (sitofp .f32 (iotaInDim S2048 32 0))))) s)) c

/-- The number of marked positions of every row. -/
def size (p : IVec S2x4096x2048 1) : IVec S2x4096x1 32 :=
  broadcastInDim S2x4096x1 ![0, 1] bcast_S2x4096_S2x4096x1_0_1
    (Host.reduce IntOp.addi (extui 32 p natLt_1_32) (constantI S_ 32 0#32) reducesTo_S2x4096x2048_S2x4096_d2 h_S_)

/-- The index words with the negative ones counted from the end, in the layout the reading of entries takes. -/
def wrap (i : IVec S2x4096x1 32) : IVec S2x4096x1x1 32 :=
  shapeCast S2x4096x1x1 (select (cmpi .slt i (broadcastInDim S2x4096x1 ![] bcast_S_S2x4096x1 (constantI S_ 32 0#32)))
    (addi i (broadcastInDim S2x4096x1 ![] bcast_S_S2x4096x1 (constantI S_ 32 2048#32))) i) shapeCasts_S2x4096x1_S2x4096x1x1

/-- The bits saying an index lies inside its row. -/
def inside (i : IVec S2x4096x1x1 32) : IVec S2x4096x1 1 :=
  Host.reduce IntOp.andi (andi (cmpi .sge i (broadcastInDim S2x4096x1x1 ![] bcast_S_S2x4096x1x1 (constantI S_ 32 0#32)))
    (cmpi .sle i (broadcastInDim S2x4096x1x1 ![0, 1, 2, 3] bcast_S1x1x1x1_S2x4096x1x1_0_1_2_3
      (broadcastInDim S1x1x1x1 ![3] bcast_S1_S1x1x1x1_3 (constantI S1 32 2047#32)))))
    (constantI S_ 1 1#1) reducesTo_S2x4096x1x1_S2x4096x1_d3 h_S_

/-- One entry of each row: the one at the index, where that lies inside the row. -/
def taken (c : FVec Ideal S2x4096x2048 .f32) (i : IVec S2x4096x1 32) : FVec Ideal S2x4096x1 .f32 :=
  select (inside (wrap i)) (Host.gather gather_S2x4096x2048_S2x4096x1x1_S2x4096x1_n_2_01_01_2_3_111 c (wrap i))
    (broadcastInDim S2x4096x1 ![] bcast_S_S2x4096x1 (constant S_ .f32 0x7FC00000#32))

/-- The numbers of marked positions of the input. -/
def counts (x : FVec Ideal S2x4096x2048 .f32) : IVec S2x4096x1 32 := size (support (sorted x) (sums (sorted x)))

/-- The running sum at the last marked position of every row. -/
def lastSum (x : FVec Ideal S2x4096x2048 .f32) : FVec Ideal S2x4096x1 .f32 :=
  taken (sums (sorted x)) (subi (counts x) (broadcastInDim S2x4096x1 ![] bcast_S_S2x4096x1 (constantI S_ 32 1#32)))

/-- The threshold of every row. -/
def tau (x : FVec Ideal S2x4096x2048 .f32) : FVec Ideal S2x4096x1 .f32 :=
  Host.divf (subf (lastSum x) (broadcastInDim S2x4096x1 ![] bcast_S_S2x4096x1 (constant S_ .f32 0x3F800000#32)))
    (sitofp .f32 (counts x))

/-- The result: what each entry of the negated input has above its row's threshold. -/
def result (x : FVec Ideal S2x4096x2048 .f32) : FVec Ideal S2x4096x2048 .f32 :=
  maximumf (subf (Host.negf x) (broadcastInDim S2x4096x2048 ![0, 1, 2] bcast_S2x4096x1_S2x4096x2048_0_1_2 (tau x)))
    (broadcastInDim S2x4096x2048 ![] bcast_S_S2x4096x2048 (constant S_ .f32 0x00000000#32))

/-- The printed composed term is this result of the argument. -/
theorem res_eq (m : (ℓ : Loc nD τ sig) → Buf (Elt Ideal) ℓ) (c : Dev nD) :
    Value.res_main_v27 m c = result (m ((c.tc : Thread nD τ).loc main_arg0)) := by
  unfold Value.res_main_v27
  rfl

/-- The comparator of the sort is "less than". -/
theorem comparator_eq (l r : EReal) : comparator_f32_d2 (F := Ideal) l r = BitVec.ofBool (decide (l < r)) := by
  have hz : (FloatOps.ofBits (F := Ideal) .f32 0x00000000#32 : EReal) = 0 := by
    show Ideal.ofBits .f32 0x00000000#32 = 0
    simp
  have h : ∀ y : EReal, Scalar.select (FloatOps.cmpf (F := Ideal) (φ := .f32) .une y y) (FloatOps.ofBits (F := Ideal) .f32 0x7FC00000#32)
      (Scalar.select (FloatOps.cmpf (F := Ideal) (φ := .f32) .oeq y (FloatOps.ofBits (F := Ideal) .f32 0x00000000#32))
        (FloatOps.ofBits (F := Ideal) .f32 0x00000000#32) y) = y := by
    intro y
    rw [hz]
    have e1 : FloatOps.cmpf (F := Ideal) (φ := .f32) .une y y = BitVec.ofBool (decide (y ≠ y)) := rfl
    have e2 : FloatOps.cmpf (F := Ideal) (φ := .f32) .oeq y (0 : EReal) = BitVec.ofBool (decide (y = 0)) := rfl
    rw [e1, e2, KernelRow.select_ofBool, KernelRow.select_ofBool, if_neg (fun hy => hy rfl)]
    split
    · next hy => exact hy.symm
    · rfl
  unfold comparator_f32_d2
  dsimp only
  rw [h l, h r]
  rfl

/-- A small number as a word, read signed. -/
theorem toInt_small (k : ℕ) (hk : k < 2 ^ 31) : (BitVec.ofNat 32 k).toInt = k := by
  rw [BitVec.toInt_eq_toNat_cond, BitVec.toNat_ofNat, Nat.mod_eq_of_lt (by omega), if_pos (by omega)]

/-- Negation at an index. -/
theorem negf_at (y : FVec Ideal S2x4096x2048 .f32) (i : S2x4096x2048.Idx) : Host.negf y i = -(y i : EReal) := rfl

section

variable (x s c : FVec Ideal S2x4096x2048 .f32) (a : Fin 2) (b : Fin 4096)

/-- A sorted row is the negated row through a bijection of positions, in descending order. -/
theorem sorted_at : ∃ σ : Fin 2048 → Fin 2048, Function.Bijective σ ∧
    (∀ j, sorted x (ix3 a b j) = 0 - x (ix3 a b (σ j))) ∧
    ∀ i j, i < j → (0 : EReal) - x (ix3 a b (σ j)) ≤ 0 - x (ix3 a b (σ i)) := by
  obtain ⟨σ, hσ, he, hs⟩ := SortRead.sort_at (A := 2) (B := 4096) (N := 2048) (comparator_f32_d2 (F := Ideal)) comparator_eq
    (Host.negf (Host.negf x)) a b
  have hn : ∀ j, Host.negf (Host.negf x) (ix3 a b j) = x (ix3 a b j) := fun j => by
    rw [negf_at, negf_at]
    exact neg_neg _
  refine ⟨σ, hσ, fun j => ?_, fun i j hij => ?_⟩
  · unfold sorted
    rw [negf_at, he j, hn, zero_sub]
  · have h1 := hs i j hij
    rw [hn, hn] at h1
    rw [zero_sub, zero_sub]
    exact EReal.neg_le_neg_iff.2 h1

/-- A running sum is the sum of the entries up to its position. -/
theorem sums_at (j : Fin 2048) : sums s (ix3 a b j) = ∑ i ∈ univ.filter (· ≤ j), s (ix3 a b i) :=
  Cumsum.cumsum_at (A := 2) (B := 4096) (N := 2048) s _ (fun i => by
    show Ideal.ofBits .f32 0x00000000#32 = 0
    simp) rfl _ _ a b j

/-- The test at a position. -/
theorem support_at (j : Fin 2048) : support s c (ix3 a b j) =
    BitVec.ofBool (decide ((c (ix3 a b j) : EReal) < 1 + (1 + ((j.val : ℝ) : EReal)) * s (ix3 a b j))) := by
  have hj : (FloatOps.sitofp (F := Ideal) .f32 (BitVec.ofNat 32 j.val) : EReal) = ((j.val : ℝ) : EReal) := by
    show (((BitVec.ofNat 32 j.val).toInt : ℝ) : EReal) = _
    have := j.isLt
    rw [toInt_small _ (by omega)]
    norm_cast
  rw [← hj]
  pointwise [support]

/-- The count word is a fold over the row's bits. -/
theorem size_at (p : IVec S2x4096x2048 1) : size p (ix3 a b (0 : Fin 1)) =
    univ.fold IntOp.addi (0#32) (fun i : Fin 2048 => BitVec.setWidth 32 (p (ix3 a b i))) := by
  pointwise [size]

/-- The wrapped index word. -/
theorem wrap_at (i : IVec S2x4096x1 32) : wrap i (ix4 a b (0 : Fin 1) (0 : Fin 1)) =
    Scalar.select (IntOp.cmpi .slt (i (ix3 a b (0 : Fin 1))) 0#32) (IntOp.addi (i (ix3 a b (0 : Fin 1))) 2048#32) (i (ix3 a b (0 : Fin 1))) := by
  pointwise [wrap]

/-- The test that an index lies inside its row. -/
theorem inside_at (i : IVec S2x4096x1x1 32) : inside i (ix3 a b (0 : Fin 1)) =
    univ.fold IntOp.andi (1#1) (fun k : Fin 1 => IntOp.andi (IntOp.cmpi .sge (i (ix4 a b (0 : Fin 1) k)) 0#32)
      (IntOp.cmpi .sle (i (ix4 a b (0 : Fin 1) k)) 2047#32)) := by
  pointwise [inside]

/-- An index word inside the row takes the row's entry there. -/
theorem taken_at (i : IVec S2x4096x1 32) (k : Fin 2048) (hk : i (ix3 a b (0 : Fin 1)) = BitVec.ofNat 32 k.val) :
    taken c i (ix3 a b (0 : Fin 1)) = c (ix3 a b k) := by
  have hlt := k.isLt
  have hi : (BitVec.ofNat 32 k.val).toInt = k.val := toInt_small _ (by omega)
  have hw : wrap i (ix4 a b (0 : Fin 1) (0 : Fin 1)) = BitVec.ofNat 32 k.val := by
    rw [wrap_at, hk]
    have : IntOp.cmpi .slt (BitVec.ofNat 32 k.val) 0#32 = BitVec.ofBool (decide ((BitVec.ofNat 32 k.val).toInt < (0#32 : BitVec 32).toInt)) := rfl
    rw [this, KernelRow.select_ofBool, if_neg]
    rw [hi]
    show ¬ ((k.val : ℤ) < 0)
    omega
  have hin : inside (wrap i) (ix3 a b (0 : Fin 1)) = 1#1 := by
    rw [inside_at, show (univ : Finset (Fin 1)) = {0} from rfl, fold_singleton, hw]
    have e1 : IntOp.cmpi .sge (BitVec.ofNat 32 k.val) 0#32 = BitVec.ofBool (decide ((0#32 : BitVec 32).toInt ≤ (BitVec.ofNat 32 k.val).toInt)) := rfl
    have e2 : IntOp.cmpi .sle (BitVec.ofNat 32 k.val) 2047#32 = BitVec.ofBool (decide ((BitVec.ofNat 32 k.val).toInt ≤ (2047#32 : BitVec 32).toInt)) := rfl
    rw [e1, e2, hi, decide_eq_true (show (0#32 : BitVec 32).toInt ≤ (k.val : ℤ) by show (0 : ℤ) ≤ _; omega),
      decide_eq_true (show (k.val : ℤ) ≤ (2047#32 : BitVec 32).toInt by show _ ≤ (2047 : ℤ); omega)]
    rfl
  have h1 : taken c i (ix3 a b (0 : Fin 1)) = Scalar.select (inside (wrap i) (ix3 a b (0 : Fin 1)))
      (Host.gather gather_S2x4096x2048_S2x4096x1x1_S2x4096x1_n_2_01_01_2_3_111 c (wrap i) (ix3 a b (0 : Fin 1)))
      (broadcastInDim S2x4096x1 ![] bcast_S_S2x4096x1 (constant S_ .f32 0x7FC00000#32) (ix3 a b (0 : Fin 1))) := rfl
  rw [h1, hin]
  refine Eq.trans (show Scalar.select (1#1) _ _ = _ from rfl) ?_
  refine (SortRead.take_at (A := 2) (B := 4096) (N := 2048) (by decide) _ c (wrap i) a b).trans ?_
  refine congrArg (fun q => c (ix3 a b q)) (Fin.ext ?_)
  show min (wrap i (ix4 a b (0 : Fin 1) (0 : Fin 1))).toInt.toNat (2048 - 1) = k.val
  rw [hw, hi]
  omega

end

end Cert.Proof.Ref

end

end
-- ==== Proof.PredStages.lean ====
/- The predicates of the claims, each as named array steps, and the steps read at an index. -/
module

public import proofs.«01_k».proof.On_settled
public import proofs.«01_k».proof.Pre_few_near
public import proofs.«01_k».proof.Post_near_sparsemax
public import proofs.«01_k».proof.Post_inf_rows
public import proofs.«01_k».proof.Proof.RefStages
public import proofs.«01_k».proof.Proof.RowFn

@[expose] public section

set_option maxRecDepth 16384

noncomputable section

namespace Cert.Proof.Pred

open Finset Idealize.ShloMosaic Cert.ReferenceIdeal Cert.ReferenceIdeal.Gen Cert.Proof.RowFn Cert.Proof.Ref

/-- The facts the precondition about near entries states. -/
instance factsNear : Cert.Pre_few_near.Facts where
  bcast_S_S2048 := bcast_S_S2048
  bcast_S_S_ := bcast_S_S_
  reduceWindows_S2x4096x2048_S2x4096x2048_w1s1p0_0_w1s1p0_0_w2048s1p2047_0 := reduceWindows_S2x4096x2048_S2x4096x2048_w1s1p0_0_w1s1p0_0_w2048s1p2047_0
  h_S_ := h_S_
  bcast_S2048_S1x1x2048_2 := bcast_S2048_S1x1x2048_2
  bcast_S1x1x2048_S2x4096x2048_0_1_2 := bcast_S1x1x2048_S2x4096x2048_0_1_2
  bcast_S_S2x4096x2048 := bcast_S_S2x4096x2048
  natLt_1_32 := natLt_1_32
  reducesTo_S2x4096x2048_S2x4096_d2 := reducesTo_S2x4096x2048_S2x4096_d2
  bcast_S2x4096_S2x4096x1_0_1 := bcast_S2x4096_S2x4096x1_0_1
  bcast_S_S2x4096x1 := bcast_S_S2x4096x1
  shapeCasts_S2x4096x1_S2x4096x1x1 := shapeCasts_S2x4096x1_S2x4096x1x1
  bcast_S_S2x4096x1x1 := bcast_S_S2x4096x1x1
  bcast_S1_S1x1x1x1_3 := bcast_S1_S1x1x1x1_3
  bcast_S1x1x1x1_S2x4096x1x1_0_1_2_3 := bcast_S1x1x1x1_S2x4096x1x1_0_1_2_3
  reducesTo_S2x4096x1x1_S2x4096x1_d3 := reducesTo_S2x4096x1x1_S2x4096x1_d3
  bcast_S2x4096x1_S2x4096x2048_0_1_2 := bcast_S2x4096x1_S2x4096x2048_0_1_2
  gather_S2x4096x2048_S2x4096x1x1_S2x4096x1_n_2_01_01_2_3_111_wf := gather_S2x4096x2048_S2x4096x1x1_S2x4096x1_n_2_01_01_2_3_111_wf

/-- The facts the mask of settled rows states. -/
instance factsSettled : Cert.On_settled.Facts where
  bcast_S_S2048 := bcast_S_S2048
  bcast_S_S_ := bcast_S_S_
  reduceWindows_S2x4096x2048_S2x4096x2048_w1s1p0_0_w1s1p0_0_w2048s1p2047_0 := reduceWindows_S2x4096x2048_S2x4096x2048_w1s1p0_0_w1s1p0_0_w2048s1p2047_0
  h_S_ := h_S_
  bcast_S2048_S1x1x2048_2 := bcast_S2048_S1x1x2048_2
  bcast_S1x1x2048_S2x4096x2048_0_1_2 := bcast_S1x1x2048_S2x4096x2048_0_1_2
  bcast_S_S2x4096x2048 := bcast_S_S2x4096x2048
  natLt_1_32 := natLt_1_32
  reducesTo_S2x4096x2048_S2x4096_d2 := reducesTo_S2x4096x2048_S2x4096_d2
  bcast_S2x4096_S2x4096x1_0_1 := bcast_S2x4096_S2x4096x1_0_1
  bcast_S_S2x4096x1 := bcast_S_S2x4096x1
  shapeCasts_S2x4096x1_S2x4096x1x1 := shapeCasts_S2x4096x1_S2x4096x1x1
  bcast_S_S2x4096x1x1 := bcast_S_S2x4096x1x1
  bcast_S1_S1x1x1x1_3 := bcast_S1_S1x1x1x1_3
  bcast_S1x1x1x1_S2x4096x1x1_0_1_2_3 := bcast_S1x1x1x1_S2x4096x1x1_0_1_2_3
  reducesTo_S2x4096x1x1_S2x4096x1_d3 := reducesTo_S2x4096x1x1_S2x4096x1_d3
  bcast_S2x4096x1_S2x4096x2048_0_1_2 := bcast_S2x4096x1_S2x4096x2048_0_1_2
  gather_S2x4096x2048_S2x4096x1x1_S2x4096x1_n_2_01_01_2_3_111_wf := gather_S2x4096x2048_S2x4096x1x1_S2x4096x1_n_2_01_01_2_3_111_wf

/-- The facts the postcondition states. -/
instance factsPost : Cert.Post_near_sparsemax.Facts where
  bcast_S_S2048 := bcast_S_S2048
  bcast_S_S_ := bcast_S_S_
  reduceWindows_S2x4096x2048_S2x4096x2048_w1s1p0_0_w1s1p0_0_w2048s1p2047_0 := reduceWindows_S2x4096x2048_S2x4096x2048_w1s1p0_0_w1s1p0_0_w2048s1p2047_0
  h_S_ := h_S_
  bcast_S2048_S1x1x2048_2 := bcast_S2048_S1x1x2048_2
  bcast_S1x1x2048_S2x4096x2048_0_1_2 := bcast_S1x1x2048_S2x4096x2048_0_1_2
  bcast_S_S2x4096x2048 := bcast_S_S2x4096x2048
  natLt_1_32 := natLt_1_32
  reducesTo_S2x4096x2048_S2x4096_d2 := reducesTo_S2x4096x2048_S2x4096_d2
  bcast_S2x4096_S2x4096x1_0_1 := bcast_S2x4096_S2x4096x1_0_1
  bcast_S_S2x4096x1 := bcast_S_S2x4096x1
  shapeCasts_S2x4096x1_S2x4096x1x1 := shapeCasts_S2x4096x1_S2x4096x1x1
  bcast_S_S2x4096x1x1 := bcast_S_S2x4096x1x1
  bcast_S1_S1x1x1x1_3 := bcast_S1_S1x1x1x1_3
  bcast_S1x1x1x1_S2x4096x1x1_0_1_2_3 := bcast_S1x1x1x1_S2x4096x1x1_0_1_2_3
  reducesTo_S2x4096x1x1_S2x4096x1_d3 := reducesTo_S2x4096x1x1_S2x4096x1_d3
  bcast_S2x4096x1_S2x4096x2048_0_1_2 := bcast_S2x4096x1_S2x4096x2048_0_1_2
  gather_S2x4096x2048_S2x4096x1x1_S2x4096x1_n_2_01_01_2_3_111_wf := gather_S2x4096x2048_S2x4096x1x1_S2x4096x1_n_2_01_01_2_3_111_wf

/-- The facts the postcondition about rows with plus infinity states. -/
instance factsInf : Cert.Post_inf_rows.Facts where
  reducesTo_S2x4096x2048_S2x4096_d2 := reducesTo_S2x4096x2048_S2x4096_d2
  h_S_ := h_S_
  bcast_S2x4096_S2x4096x1_0_1 := bcast_S2x4096_S2x4096x1_0_1
  bcast_S_S2x4096x1 := bcast_S_S2x4096x1
  bcast_S_S2x4096x2048 := bcast_S_S2x4096x2048
  bcast_S2x4096x1_S2x4096x2048_0_1_2 := bcast_S2x4096x1_S2x4096x2048_0_1_2

/-- The greatest entry of every row. -/
def topArr (v : FVec Ideal S2x4096x2048 .f32) : FVec Ideal S2x4096x1 .f32 :=
  broadcastInDim S2x4096x1 ![0, 1] bcast_S2x4096_S2x4096x1_0_1
    (Host.reduce FloatOps.maximumf v (constant S_ .f32 0xFF800000#32) reducesTo_S2x4096x2048_S2x4096_d2 h_S_)

/-- The bits saying a row holds no plus infinity. -/
def valid (v : FVec Ideal S2x4096x2048 .f32) : IVec S2x4096x1 1 :=
  cmpf .olt (topArr v) (broadcastInDim S2x4096x1 ![] bcast_S_S2x4096x1 (constant S_ .f32 0x7F800000#32))

/-- A word of every row, given to each entry of the row. -/
def spread (v : IVec S2x4096x1 1) : IVec S2x4096x2048 1 :=
  broadcastInDim S2x4096x2048 ![0, 1, 2] bcast_S2x4096x1_S2x4096x2048_0_1_2 v

/-- A number of every row, given to each entry of the row. -/
def spreadf (v : FVec Ideal S2x4096x1 .f32) : FVec Ideal S2x4096x2048 .f32 :=
  broadcastInDim S2x4096x2048 ![0, 1, 2] bcast_S2x4096x1_S2x4096x2048_0_1_2 v

/-- The bits marking the entries just below a level. -/
def near (v : FVec Ideal S2x4096x2048 .f32) (t : FVec Ideal S2x4096x1 .f32) : IVec S2x4096x2048 1 :=
  andi (cmpf .ogt v (broadcastInDim S2x4096x2048 ![0, 1, 2] bcast_S2x4096x1_S2x4096x2048_0_1_2
      (subf t (broadcastInDim S2x4096x1 ![] bcast_S_S2x4096x1 (constant S_ .f32 0x3D800000#32)))))
    (cmpf .olt v (broadcastInDim S2x4096x2048 ![0, 1, 2] bcast_S2x4096x1_S2x4096x2048_0_1_2 t))

/-- The start level: a whole number of sixteenths above the greatest entry less one. -/
def startArr (v : FVec Ideal S2x4096x2048 .f32) (t : FVec Ideal S2x4096x1 .f32) : FVec Ideal S2x4096x1 .f32 :=
  addf (subf (topArr v) (broadcastInDim S2x4096x1 ![] bcast_S_S2x4096x1 (constant S_ .f32 0x3F800000#32)))
    (mulf (Host.floor (mulf (subf t (subf (topArr v) (broadcastInDim S2x4096x1 ![] bcast_S_S2x4096x1 (constant S_ .f32 0x3F800000#32))))
      (broadcastInDim S2x4096x1 ![] bcast_S_S2x4096x1 (constant S_ .f32 0x41800000#32))))
      (broadcastInDim S2x4096x1 ![] bcast_S_S2x4096x1 (constant S_ .f32 0x3D800000#32)))

/-- The bits marking the entries above a level. -/
def aboveBits (v : FVec Ideal S2x4096x2048 .f32) (t : FVec Ideal S2x4096x1 .f32) : IVec S2x4096x2048 1 :=
  cmpf .ogt v (broadcastInDim S2x4096x2048 ![0, 1, 2] bcast_S2x4096x1_S2x4096x2048_0_1_2 t)

/-- The sum of every row from zero. -/
def rowSum (v : FVec Ideal S2x4096x2048 .f32) : FVec Ideal S2x4096x1 .f32 :=
  broadcastInDim S2x4096x1 ![0, 1] bcast_S2x4096_S2x4096x1_0_1
    (Host.reduceAdd v (constant S_ .f32 0x00000000#32) reducesTo_S2x4096x2048_S2x4096_d2 h_S_)

/-- One step of the level: the sum of the entries above it less one, over their number. -/
def step (v : FVec Ideal S2x4096x2048 .f32) (t : FVec Ideal S2x4096x1 .f32) : FVec Ideal S2x4096x1 .f32 :=
  Host.divf (subf (rowSum (select (aboveBits v t) v (broadcastInDim S2x4096x2048 ![] bcast_S_S2x4096x2048 (constant S_ .f32 0x00000000#32))))
    (broadcastInDim S2x4096x1 ![] bcast_S_S2x4096x1 (constant S_ .f32 0x3F800000#32))) (rowSum (uitofp .f32 (aboveBits v t)))

section

variable (v : FVec Ideal S2x4096x2048 .f32) (t : FVec Ideal S2x4096x1 .f32) (a : Fin 2) (b : Fin 4096)

/-- The position in a row's one number of any of its entries. -/
theorem spread_at (p : IVec S2x4096x1 1) (k : Fin 2048) : spread p (ix3 a b k) = p (ix3 a b (0 : Fin 1)) := by
  refine congrArg p (funext fun e => Fin.ext ?_)
  match e with
  | ⟨0, _⟩ => rfl
  | ⟨1, _⟩ => rfl
  | ⟨2, _⟩ => rfl

/-- The same for numbers. -/
theorem spreadf_at (k : Fin 2048) : spreadf t (ix3 a b k) = t (ix3 a b (0 : Fin 1)) := by
  refine congrArg t (funext fun e => Fin.ext ?_)
  match e with
  | ⟨0, _⟩ => rfl
  | ⟨1, _⟩ => rfl
  | ⟨2, _⟩ => rfl

/-- The greatest entry of a row. -/
theorem topArr_at : (topArr v (ix3 a b (0 : Fin 1)) : EReal) = top fun k : Fin 2048 => (v (ix3 a b k) : EReal) := by
  pointwise [topArr]
  rw [KernelRow.ofBits_bot]
  rfl

/-- A row's sum. -/
theorem rowSum_at : (rowSum v (ix3 a b (0 : Fin 1)) : EReal) = ∑ k : Fin 2048, (v (ix3 a b k) : EReal) := by
  pointwise [rowSum]

/-- The bit marking an entry above a level. -/
theorem aboveBits_at (k : Fin 2048) : aboveBits v t (ix3 a b k) =
    BitVec.ofBool (decide ((t (ix3 a b (0 : Fin 1)) : EReal) < v (ix3 a b k))) := by
  pointwise [aboveBits]

/-- The bit marking an entry just below a level. -/
theorem near_at (k : Fin 2048) : near v t (ix3 a b k) =
    IntOp.andi (BitVec.ofBool (decide ((t (ix3 a b (0 : Fin 1)) : EReal) - Ideal.ofBits .f32 0x3D800000#32 < v (ix3 a b k))))
      (BitVec.ofBool (decide ((v (ix3 a b k) : EReal) < t (ix3 a b (0 : Fin 1))))) := by
  pointwise [near]

/-- The start level at a row. -/
theorem startArr_at : (startArr v t (ix3 a b (0 : Fin 1)) : EReal) =
    ((topArr v (ix3 a b (0 : Fin 1)) : EReal) - 1) + Ideal.liftRound Int.floor (((t (ix3 a b (0 : Fin 1)) : EReal) - ((topArr v (ix3 a b (0 : Fin 1)) : EReal) - 1))
      * Ideal.ofBits .f32 0x41800000#32) * Ideal.ofBits .f32 0x3D800000#32 := by
  have h1 : ∀ u w : FVec Ideal S2x4096x1 .f32,
      addf (subf u (broadcastInDim S2x4096x1 ![] bcast_S_S2x4096x1 (constant S_ .f32 0x3F800000#32)))
        (mulf (Host.floor (mulf (subf w (subf u (broadcastInDim S2x4096x1 ![] bcast_S_S2x4096x1 (constant S_ .f32 0x3F800000#32))))
          (broadcastInDim S2x4096x1 ![] bcast_S_S2x4096x1 (constant S_ .f32 0x41800000#32))))
          (broadcastInDim S2x4096x1 ![] bcast_S_S2x4096x1 (constant S_ .f32 0x3D800000#32))) (ix3 a b (0 : Fin 1)) =
      (((u (ix3 a b (0 : Fin 1)) : EReal) - Ideal.ofBits .f32 0x3F800000#32)
        + Ideal.liftRound Int.floor (((w (ix3 a b (0 : Fin 1)) : EReal) - ((u (ix3 a b (0 : Fin 1)) : EReal) - Ideal.ofBits .f32 0x3F800000#32))
          * Ideal.ofBits .f32 0x41800000#32) * Ideal.ofBits .f32 0x3D800000#32 : EReal) := fun _ _ => rfl
  have h2 : (Ideal.ofBits .f32 0x3F800000#32 : EReal) = 1 := by simp
  unfold startArr
  rw [h1, h2]

end

end Cert.Proof.Pred

end

end
-- ==== Proof.PredEqs.lean ====
/- The predicates of the claims are the named array steps. -/
module

public import proofs.«01_k».proof.Proof.PredStages

@[expose] public section

set_option maxRecDepth 16384

noncomputable section

namespace Cert.Proof.Pred

open Finset Idealize.ShloMosaic Cert.ReferenceIdeal Cert.ReferenceIdeal.Gen Cert.Proof.RowFn Cert.Proof.Ref

/-- The precondition about near entries, as these steps. -/
theorem few_eq (x : FVec Ideal S2x4096x2048 .f32) : Cert.Pre_few_near.fn (F := Ideal) x =
    andi (valid (Host.negf x)) (cmpi .sle (size (near (Host.negf x) (tau x)))
      (broadcastInDim S2x4096x1 ![] bcast_S_S2x4096x1 (constantI S_ 32 2#32))) := rfl

/-- The level after three steps from the start level. -/
def settledLevel (x : FVec Ideal S2x4096x2048 .f32) : FVec Ideal S2x4096x1 .f32 :=
  step (Host.negf x) (step (Host.negf x) (step (Host.negf x) (startArr (Host.negf x) (tau x))))

/-- The mask of settled elements, as these steps. -/
theorem settled_eq (x : FVec Ideal S2x4096x2048 .f32) : Cert.On_settled.fn (F := Ideal) x =
    andi (spread (valid (Host.negf x))) (ori (spread (cmpf .oeq (settledLevel x) (tau x)))
      (cmpf .ole (Host.negf x) (spreadf (settledLevel x)))) := rfl

/-- The postcondition, as these steps. -/
theorem post_eq (x y : FVec Ideal S2x4096x2048 .f32) : Cert.Post_near_sparsemax.fn (F := Ideal) x y =
    ori (spread (noti (valid (Host.negf x)))) (andi (cmpf .ole (result x) y) (cmpf .ole y (addf (result x)
      (broadcastInDim S2x4096x2048 ![] bcast_S_S2x4096x2048 (constant S_ .f32 0x3D800000#32))))) := rfl

/-- The postcondition about rows with plus infinity, as these steps. -/
theorem inf_eq (x y : FVec Ideal S2x4096x2048 .f32) : Cert.Post_inf_rows.fn (F := Ideal) x y =
    ori (spread (valid (Host.negf x))) (cmpf .oeq y (maximumf (addf (Host.negf x)
      (broadcastInDim S2x4096x2048 ![] bcast_S_S2x4096x2048 (constant S_ .f32 0x3F800000#32)))
      (broadcastInDim S2x4096x2048 ![] bcast_S_S2x4096x2048 (constant S_ .f32 0x00000000#32)))) := rfl

end Cert.Proof.Pred

end

end
-- ==== Proof.Sorted.lean ====
/- The sort-based definition of the threshold: of a row in descending order, the entries whose test holds are exactly those
   above the threshold, they come first, and the running sum at the last of them gives the threshold. -/
module

public import proofs.«01_k».proof.Proof.RowFn

@[expose] public section

noncomputable section

namespace Cert.Proof.Sorted

open Finset Idealize.ShloMosaic Cert.Proof.RowFn

/-- A set of positions that with each position holds every earlier one is the first so many positions. -/
theorem mem_iff_lt_card {n : ℕ} (T : Finset (Fin n)) (h : ∀ i j, i < j → j ∈ T → i ∈ T) (i : Fin n) : i ∈ T ↔ i.val < T.card := by
  constructor
  · intro hi
    have hs : Finset.Iic i ⊆ T := fun k hk => by
      rcases lt_or_eq_of_le (Finset.mem_Iic.1 hk) with h1 | h1
      · exact h k i h1 hi
      · exact h1 ▸ hi
    have := card_le_card hs
    rw [Fin.card_Iic] at this
    omega
  · intro hi
    by_contra hn
    have hs : T ⊆ Finset.Iio i := fun k hk => by
      rw [Finset.mem_Iio]
      by_contra hk'
      rcases lt_or_eq_of_le (not_lt.1 hk') with h1 | h1
      · exact hn (h i k h1 hk)
      · exact hn (h1 ▸ hk)
    have := card_le_card hs
    rw [Fin.card_Iio] at this
    omega

section

variable {n : ℕ} {w : Fin n → EReal} {z : Fin n → ℝ} {m τ : ℝ} (h : Shadow w z m) (hτ : Sparse.excess z τ = 1)
  (hm : m - 1 ≤ τ) {σ : Fin n → Fin n} (hσ : Function.Bijective σ) (hs : ∀ i j, i < j → w (σ j) ≤ w (σ i))
include h hτ hm hσ hs

/-- The entries above the threshold come first in the descending order. -/
theorem down_closed (i j : Fin n) (hij : i < j) (hj : τ < z (σ j)) : τ < z (σ i) :=
  (lt_iff h hm _).1 (lt_of_lt_of_le ((lt_iff h hm _).2 hj) (hs i j hij))

/-- A sum over positions in the descending order is the sum over the row. -/
theorem sum_sorted (f : Fin n → ℝ) : ∑ i, f (σ i) = ∑ i, f i := (Equiv.ofBijective σ hσ).sum_comp f

/-- The test at a position holds exactly when its entry is above the threshold. -/
theorem test_iff (j : Fin n) : (∑ i ∈ univ.filter (· ≤ j), w (σ i)) < 1 + (1 + ((j.val : ℝ) : EReal)) * w (σ j) ↔ τ < z (σ j) := by
  have hj1 : (0 : ℝ) < 1 + (j.val : ℝ) := by positivity
  rcases h.hit (σ j) with hw | ⟨hw, hz⟩
  swap
  · rw [hw]
    have e : (1 + ((j.val : ℝ) : EReal)) * ⊥ = ⊥ := by
      rw [← EReal.coe_one, ← EReal.coe_add]
      exact EReal.coe_mul_bot_of_pos hj1
    rw [e, EReal.add_bot]
    exact iff_of_false not_lt_bot (by linarith)
  have hr : ∀ i, i ≤ j → w (σ i) = (z (σ i) : EReal) ∧ z (σ j) ≤ z (σ i) := by
    intro i hi
    rcases lt_or_eq_of_le hi with h1 | h1
    · have hle := hs i j h1
      rcases h.hit (σ i) with h2 | ⟨h2, _⟩
      · rw [hw, h2] at hle
        exact ⟨h2, by exact_mod_cast hle⟩
      · rw [hw, h2] at hle
        exact absurd hle (not_le.2 (EReal.bot_lt_coe _))
    · rw [h1]
      exact ⟨hw, le_rfl⟩
  have hsum : ∑ i ∈ univ.filter (· ≤ j), w (σ i) = ((∑ i ∈ univ.filter (· ≤ j), z (σ i) : ℝ) : EReal) := by
    rw [coe_sum]
    exact sum_congr rfl fun i hi => (hr i (mem_filter.1 hi).2).1
  rw [hsum, hw, ← EReal.coe_one, ← EReal.coe_add, ← EReal.coe_mul, ← EReal.coe_add, EReal.coe_lt_coe_iff]
  have hcard : ((univ.filter (· ≤ j)).card : ℝ) = 1 + (j.val : ℝ) := by
    have : univ.filter (· ≤ j) = Finset.Iic j := by ext i; simp
    rw [this, Fin.card_Iic]
    push_cast
    ring
  have hdiff : ∑ i ∈ univ.filter (· ≤ j), (z (σ i) - z (σ j)) =
      ∑ i ∈ univ.filter (· ≤ j), z (σ i) - (1 + (j.val : ℝ)) * z (σ j) := by
    rw [sum_sub_distrib, sum_const, nsmul_eq_mul, hcard]
  have key : (∑ i ∈ univ.filter (· ≤ j), (z (σ i) - z (σ j)) < 1) ↔ τ < z (σ j) := by
    constructor
    · intro hlt
      by_contra hn
      have hn := not_lt.1 hn
      have h1 : Sparse.excess z τ ≤ ∑ i ∈ univ.filter (· ≤ j), (z (σ i) - z (σ j)) := by
        unfold Sparse.excess
        rw [← sum_sorted h hτ hm hσ hs (fun i => max (z i - τ) 0), sum_filter]
        refine sum_le_sum fun i _ => ?_
        by_cases hi : i ≤ j
        · rw [if_pos hi]
          have := (hr i hi).2
          exact max_le (by linarith) (by linarith)
        · rw [if_neg hi]
          refine max_le ?_ le_rfl
          by_contra hc
          have := down_closed h hτ hm hσ hs j i (not_le.1 hi) (by linarith)
          linarith
      linarith
    · intro hgt
      have h1 : ∑ i ∈ univ.filter (· ≤ j), (z (σ i) - z (σ j)) ≤ Sparse.excess z (z (σ j)) := by
        unfold Sparse.excess
        rw [← sum_sorted h hτ hm hσ hs (fun i => max (z i - z (σ j)) 0)]
        refine (sum_le_sum fun i _ => le_max_left _ _).trans
          (sum_le_sum_of_subset_of_nonneg (filter_subset _ _) fun i _ _ => le_max_right _ _)
      exact lt_of_le_of_lt h1 ((Sparse.lt_iff hτ).1 hgt)
  rw [← key, hdiff]
  constructor <;> intro hh <;> linarith

variable (T : Finset (Fin n)) (hT : ∀ j, j ∈ T ↔ τ < z (σ j))
include hT

/-- There are as many positions whose test holds as entries above the threshold. -/
theorem card_eq : T.card = (Sparse.above z τ).card := by
  refine card_bij (fun i _ => σ i) (fun i hi => Sparse.mem_above.2 ((hT i).1 hi)) (fun i _ j _ hij => hσ.1 hij) fun k hk => ?_
  obtain ⟨i, rfl⟩ := hσ.2 k
  exact ⟨i, (hT i).2 (Sparse.mem_above.1 hk), rfl⟩

/-- The running sum at the last position whose test holds, less one, over the number of such positions, is the threshold. -/
theorem threshold_eq (last : Fin n) (hlast : last.val + 1 = T.card) :
    Ideal.div ((∑ i ∈ univ.filter (· ≤ last), w (σ i)) - 1) ((T.card : ℝ) : EReal) = (τ : EReal) := by
  have hpos : 0 < (Sparse.above z τ).card := Sparse.above_card_pos hτ le_rfl
  have hc : ((T.card : ℝ)) ≠ 0 := by
    rw [card_eq h hτ hm hσ hs T hT]
    exact_mod_cast hpos.ne'
  have hTf : univ.filter (· ≤ last) = T := by
    ext i
    rw [mem_iff_lt_card T (fun i j hij hj => (hT i).2 (down_closed h hτ hm hσ hs i j hij ((hT j).1 hj))) i, mem_filter,
      Fin.le_def]
    simp only [mem_univ, true_and]
    omega
  have hsum : ∑ i ∈ T, w (σ i) = ((∑ i ∈ Sparse.above z τ, z i : ℝ) : EReal) := by
    rw [coe_sum]
    refine sum_bij (fun i _ => σ i) (fun i hi => Sparse.mem_above.2 ((hT i).1 hi)) (fun i _ j _ hij => hσ.1 hij) (fun k hk => ?_)
      fun i hi => eq_of_lt h hm ((hT i).1 hi)
    obtain ⟨i, rfl⟩ := hσ.2 k
    exact ⟨i, (hT i).2 (Sparse.mem_above.1 hk), rfl⟩
  rw [hTf, hsum, Ideal.div_coe hc, ← EReal.coe_one, ← EReal.coe_sub, ← EReal.coe_mul, mul_one_div,
    card_eq h hτ hm hσ hs T hT]
  have hp := Sparse.polish_eq hτ le_rfl (by
    ext i
    simp only [Sparse.mem_between, notMem_empty, iff_false, not_and, not_lt]
    intro hi; linarith)
  unfold Sparse.polish at hp
  rw [hp]

end

end Cert.Proof.Sorted

end

end
-- ==== Proof.RefRow.lean ====
/- The reference's threshold of a row is the row's real threshold. -/
module

public import proofs.«01_k».proof.Proof.RefStages
public import proofs.«01_k».proof.Proof.Sorted

@[expose] public section

set_option maxRecDepth 16384

noncomputable section

namespace Cert.Proof.Ref

open Finset Idealize.ShloMosaic Cert.ReferenceIdeal Cert.ReferenceIdeal.Gen Cert.Proof.RowFn

/-- The bit of a decidable statement is set exactly when it holds. -/
theorem ofBool_iff (P : Prop) [Decidable P] : BitVec.ofBool (decide P) = 1#1 ↔ P := by
  by_cases h : P <;> simp [h]

/-- A row of the negated input. -/
def row (x : FVec Ideal S2x4096x2048 .f32) (a : Fin 2) (b : Fin 4096) : Fin 2048 → EReal := fun k => 0 - x (ix3 a b k)

/-- The index of the last marked position, read off the count word. -/
theorem lastSum_at (x : FVec Ideal S2x4096x2048 .f32) (a : Fin 2) (b : Fin 4096) (k : Fin 2048)
    (hk : counts x (ix3 a b (0 : Fin 1)) = BitVec.ofNat 32 (k.val + 1)) :
    lastSum x (ix3 a b (0 : Fin 1)) = sums (sorted x) (ix3 a b k) := by
  unfold lastSum
  refine taken_at _ a b _ k ?_
  have h1 : ∀ (v : IVec S2x4096x1 32), subi v (broadcastInDim S2x4096x1 ![] bcast_S_S2x4096x1 (constantI S_ 32 1#32)) (ix3 a b (0 : Fin 1))
      = v (ix3 a b (0 : Fin 1)) - 1#32 := fun _ => rfl
  rw [h1, hk]
  have hlt := k.isLt
  refine BitVec.eq_of_toNat_eq ?_
  rw [BitVec.toNat_sub_of_le]
  · rw [BitVec.toNat_ofNat, BitVec.toNat_ofNat, BitVec.toNat_ofNat, Nat.mod_eq_of_lt (by omega), Nat.mod_eq_of_lt (by omega),
      Nat.mod_eq_of_lt (by omega)]
    omega
  · rw [BitVec.le_def, BitVec.toNat_ofNat, BitVec.toNat_ofNat, Nat.mod_eq_of_lt (by omega), Nat.mod_eq_of_lt (by omega)]
    omega

/-- The threshold at a row, of the two numbers it is made of. -/
theorem tau_eq (x : FVec Ideal S2x4096x2048 .f32) (a : Fin 2) (b : Fin 4096) :
    tau x (ix3 a b (0 : Fin 1)) = Ideal.div ((lastSum x (ix3 a b (0 : Fin 1)) : EReal) - 1)
      (((counts x (ix3 a b (0 : Fin 1))).toInt : ℝ) : EReal) := by
  have h1 : ∀ (v : FVec Ideal S2x4096x1 .f32) (c : IVec S2x4096x1 32), Host.divf (subf v (broadcastInDim S2x4096x1 ![] bcast_S_S2x4096x1 (constant S_ .f32 0x3F800000#32)))
      (sitofp .f32 c) (ix3 a b (0 : Fin 1)) = Ideal.div ((v (ix3 a b (0 : Fin 1)) : EReal) - Ideal.ofBits .f32 0x3F800000#32)
        (((c (ix3 a b (0 : Fin 1))).toInt : ℝ) : EReal) := fun _ _ => rfl
  unfold tau
  rw [h1]
  simp

/-- The reference's threshold of a row with a finite greatest entry is the row's threshold. -/
theorem tau_at (x : FVec Ideal S2x4096x2048 .f32) (a : Fin 2) (b : Fin 4096) {z : Fin 2048 → ℝ} {m τ : ℝ}
    (h : Shadow (row x a b) z m) (hτ : Sparse.excess z τ = 1) (hm : m - 1 ≤ τ) : tau x (ix3 a b (0 : Fin 1)) = (τ : EReal) := by
  classical
  obtain ⟨σ, hσ, hw, hs⟩ := sorted_at x a b
  have hw' : ∀ j, (sorted x (ix3 a b j) : EReal) = row x a b (σ j) := hw
  have hs' : ∀ i j, i < j → row x a b (σ j) ≤ row x a b (σ i) := hs
  have hsum : ∀ j, (sums (sorted x) (ix3 a b j) : EReal) = ∑ i ∈ univ.filter (· ≤ j), row x a b (σ i) := fun j =>
    (sums_at (sorted x) a b j).trans (sum_congr rfl fun i _ => hw' i)
  have hT : ∀ j, j ∈ univ.filter (fun j => τ < z (σ j)) ↔ τ < z (σ j) := fun j => by simp
  have hbit : ∀ j, j ∈ univ.filter (fun j => τ < z (σ j)) ↔ support (sorted x) (sums (sorted x)) (ix3 a b j) = 1#1 := by
    intro j
    rw [hT, support_at, hsum, hw', ← Sorted.test_iff h hτ hm hσ hs' j]
    exact (ofBool_iff _).symm
  have hc : counts x (ix3 a b (0 : Fin 1)) = BitVec.ofNat 32 (univ.filter (fun j => τ < z (σ j))).card := by
    unfold counts
    rw [size_at]
    exact SortRead.fold_count (by norm_num) (fun j => support (sorted x) (sums (sorted x)) (ix3 a b j)) _ hbit
  have hle : (univ.filter (fun j => τ < z (σ j))).card ≤ 2048 := by
    simpa using card_le_univ (univ.filter (fun j => τ < z (σ j)))
  have hpos : 0 < (univ.filter (fun j => τ < z (σ j))).card := by
    rw [Sorted.card_eq h hτ hm hσ hs' _ hT]
    exact Sparse.above_card_pos hτ le_rfl
  obtain ⟨last, hlast⟩ : ∃ k : Fin 2048, k.val + 1 = (univ.filter (fun j => τ < z (σ j))).card :=
    ⟨⟨(univ.filter (fun j => τ < z (σ j))).card - 1, by omega⟩, by show _ - 1 + 1 = _; omega⟩
  have hi : (counts x (ix3 a b (0 : Fin 1))).toInt = ((univ.filter (fun j => τ < z (σ j))).card : ℤ) := by
    rw [hc, toInt_small _ (by omega)]
  rw [tau_eq, hi, lastSum_at x a b last (by rw [hlast]; exact hc), hsum last]
  have hth := Sorted.threshold_eq h hτ hm hσ hs' _ hT last hlast
  rw [Int.cast_natCast]
  exact hth

/-- The reference's result at an index. -/
theorem result_at (x : FVec Ideal S2x4096x2048 .f32) (a : Fin 2) (b : Fin 4096) (k : Fin 2048) :
    (result x (ix3 a b k) : EReal) = max (row x a b k - tau x (ix3 a b (0 : Fin 1))) 0 := by
  have h1 : ∀ v : FVec Ideal S2x4096x1 .f32,
      broadcastInDim S2x4096x2048 ![0, 1, 2] bcast_S2x4096x1_S2x4096x2048_0_1_2 v (ix3 a b k) = v (ix3 a b (0 : Fin 1)) := by
    intro v
    refine congrArg v (funext fun e => Fin.ext ?_)
    match e with
    | ⟨0, _⟩ => rfl
    | ⟨1, _⟩ => rfl
    | ⟨2, _⟩ => rfl
  have h2 : ∀ u v : FVec Ideal S2x4096x2048 .f32, maximumf (subf u v)
      (broadcastInDim S2x4096x2048 ![] bcast_S_S2x4096x2048 (constant S_ .f32 0x00000000#32)) (ix3 a b k) =
        max ((u (ix3 a b k) : EReal) - v (ix3 a b k)) (Ideal.ofBits .f32 0x00000000#32) := fun _ _ => rfl
  have h3 : (Ideal.ofBits .f32 0x00000000#32 : EReal) = 0 := by simp
  unfold result row
  rw [h2, h1, negf_at, h3, zero_sub]

end Cert.Proof.Ref

end

end
-- ==== Proof.KernelRowB.lean ====
/- The second half of the kernel's body, row by row over the extended reals: the fourth halving and the polish steps, from
   the values the first half hands on; and the block the body leaves. -/
module

public import proofs.«01_k».proof.Proof.Gen.KernelIdeal.Frame
public import proofs.«01_k».proof.Proof.RowFn
public import Idealize.ShloMosaic.Lib.Pointwise
public import Idealize.ShloMosaic.Lib.Pipeline.Value

@[expose] public section

set_option maxRecDepth 16384

noncomputable section

namespace Cert.Proof.KernelRow

open Idealize.ShloMosaic Cert.KernelIdeal Cert.KernelIdeal.Gen Cert.Proof.RowFn

/-- A condition's bit, widened and read as a number, is one or zero. -/
theorem number_ofBool (P : Prop) [Decidable P] :
    FloatOps.sitofp (F := Ideal) FTy.f32 (BitVec.setWidth 32 (BitVec.ofBool (decide P))) = if P then (1 : EReal) else 0 := by
  show (((BitVec.setWidth 32 (BitVec.ofBool (decide P))).toInt : ℝ) : EReal) = _
  by_cases h : P <;> simp [h]

/-- A choice by a decided proposition, in the second half. -/
theorem choose_ofBool {α : Type} (P : Prop) [Decidable P] (a b : α) :
    Scalar.select (BitVec.ofBool (decide P)) a b = if P then a else b := by
  by_cases h : P <;> simp [Scalar.select, h]

variable (z : FVec Ideal S512x2048 .f32) (a b c d : FVec Ideal S512x1 .f32) (r : Fin 512) (w : Fin 2048 → EReal)

section
variable (hz : ∀ k, z (ix2 r k) = w k) (ha : a (ix2 r 0) = (bracket w 2).1) (hb : b (ix2 r 0) = (bracket w 2).2)
  (hc : c (ix2 r 0) = mid (bracket w 2)) (hd : d (ix2 r 0) = excess w (mid (bracket w 2)))
include hz ha hb hc hd

/-- The entries above the level after the first polish step. -/
theorem pay15_at (k : Fin 2048) : k0_pay15 z a b c d (ix2 r k) =
    BitVec.ofBool (decide (polish w (bracket w 4).1 < w k)) := by
  pointwise [k0_pay15]
  simp only [hz, ha, hb, hc, hd, number_ofBool]
  rfl

/-- The sum above that level, less one. -/
theorem pay16_at (u : Fin 1) : k0_pay16 z a b c d (ix2 r u) = total w (polish w (bracket w 4).1) - 1 := by
  pointwise [k0_pay16]
  simp only [pay15_at z a b c d r w hz ha hb hc hd, hz, choose_ofBool]
  rfl

/-- The number of entries above that level, at least one. -/
theorem pay17_at (u : Fin 1) : k0_pay17 z a b c d (ix2 r u) = max (count w (polish w (bracket w 4).1)) 1 := by
  pointwise [k0_pay17]
  simp only [pay15_at z a b c d r w hz ha hb hc hd, number_ofBool]
  rfl

end

/-- The last polish step and the result, from a sum and a count. -/
theorem pay1_at (hz : ∀ k, z (ix2 r k) = w k) (k : Fin 2048) : k0_pay1 z a b (ix2 r k) =
    max (w k - polish w (Ideal.div (a (ix2 r 0)) (b (ix2 r 0)))) 0 := by
  pointwise [k0_pay1]
  simp only [hz, number_ofBool]
  rfl

end Cert.Proof.KernelRow

end

end
-- ==== Proof.KernelRow.lean ====
/- The block the kernel's body leaves: each row is the negated row less its level, floored at zero. -/
module

public import proofs.«01_k».proof.Proof.KernelRowA
public import proofs.«01_k».proof.Proof.KernelRowB

@[expose] public section

set_option maxRecDepth 16384

noncomputable section

namespace Cert.Proof.KernelRow

open Idealize.ShloMosaic Cert.KernelIdeal Cert.KernelIdeal.Gen Cert.Proof.RowFn

/-- The offsets of the whole block are zero. -/
theorem off_zero : (![0, 0] : Fin S512x2048.rank → ℕ) = fun _ => 0 := by
  funext a
  match a with
  | ⟨0, _⟩ => rfl
  | ⟨1, _⟩ => rfl

/-- The block the body leaves, as the composed values of its two halves. -/
theorem out_eq (x : Vec Ideal S512x2048 .f32) : out0_1 x =
    k0_pay1 (k0_pay2 x) (k0_pay16 (k0_pay2 x) (k0_pay11 x) (k0_pay12 x) (k0_pay13 x) (k0_pay14 x))
      (k0_pay17 (k0_pay2 x) (k0_pay11 x) (k0_pay12 x) (k0_pay13 x) (k0_pay14 x)) := by
  have hl : View.ld x r0_0 = x := View.ld_unit_zero off_zero _ x
  unfold out0_1 k0_pay18 k0_pay19 k0_pay20 k0_pay21 k0_pay22
  rw [hl]
  exact View.canon_unit_zero off_zero _ _

/-- The block the body leaves at a row and an entry. -/
theorem out_at (x : Vec Ideal S512x2048 .f32) (r : Fin 512) (k : Fin 2048) :
    out0_1 x (ix2 r k) = max (neg x r k - level (neg x r)) 0 := by
  rw [out_eq, pay1_at _ _ _ r (neg x r) (pay2_at x r),
    pay16_at _ _ _ _ _ r (neg x r) (pay2_at x r) (pay11_at x r 0) (pay12_at x r 0) (pay13_at x r 0) (pay14_at x r 0),
    pay17_at _ _ _ _ _ r (neg x r) (pay2_at x r) (pay11_at x r 0) (pay12_at x r 0) (pay13_at x r 0) (pay14_at x r 0)]
  rfl

end Cert.Proof.KernelRow

end

end
-- ==== Proof.KernelArray.lean ====
/- The kernel's run over the extended reals: the result is, row by row, the negated row less its level, floored at zero. -/
module

public import proofs.«01_k».proof.Proof.KernelRow
public import Idealize.ShloMosaic.Lib.Claim
public import Idealize.ShloMosaic.Lib.Pipeline.ValueKit.Geometry
public import Idealize.ShloMosaic.Lib.Pipeline.ValueKit.Acc

@[expose] public section

set_option maxRecDepth 16384

noncomputable section

namespace Cert.Proof.KernelArray

open Idealize.ShloMosaic Idealize.ShloMosaic.TcCoe Idealize.SL.Sem
open Cert.KernelIdeal Cert.KernelIdeal.Gen Cert.Proof.RowFn Cert.Proof.KernelRow

variable (m : (ℓ : Loc nD τ sig) → Buf (Elt Ideal) ℓ) (ρ : Dev nD → PrngReg)

/-- The flat result of a flat array: each row negated, less its level, floored at zero. -/
def flat (x : FVec Ideal S8192x2048 .f32) : FVec Ideal S8192x2048 .f32 :=
  fun j => max ((0 - x j) - level fun k : Fin 2048 => 0 - x (ix2 (j 0) k)) 0

/-- The row block of a point. -/
def rowBlock (t : Fin cfg0.N) : ℕ := (BitVec.ofNat 32 (grid0.coords t 0).val).toNat

/-- Window 0's block index at a point. -/
theorem index0 (t : Fin cfg0.N) : win0_0.index t = ![rowBlock t, 0] := rfl

/-- Window 1's block index at a point. -/
theorem index1 (t : Fin cfg0.N) : win0_1.index t = ![rowBlock t, 0] := rfl

/-- An entry of the input's block is the entry of the flat array on the output block's row. -/
theorem iblk_at (c : Dev nD) (t : Fin cfg0.N) (r : Fin 512) (k k' : Fin 2048) :
    iblk m c 0 t (ix2 r k') = V m c main_v0 (ix2 (((win0_1.blk t).view.emb (ix2 r k)) 0) k') := by
  show V m c main_v0 ((win0_0.blk t).view.emb (ix2 r k')) = _
  refine congrArg (V m c main_v0) (funext fun a => Fin.ext ?_)
  match a with
  | ⟨0, _⟩ =>
    show (((win0_0.blk t).view.emb (ix2 r k')) 0).val = (((win0_1.blk t).view.emb (ix2 r k)) 0).val
    blk_simp [index0, index1]
  | ⟨1, _⟩ =>
    show (((win0_0.blk t).view.emb (ix2 r k')) 1).val = k'.val
    blk_simp [index0]

/-- The pipeline's result array after the run. -/
theorem arr_eq (c : Dev nD) : (dats m 0 c).arrAt 1 (cfgs 0).N = flat (V m c main_v0) := by
  refine (dats m 0 c).arrAt_eq_of_covers 1 _ (by decide +kernel) fun t hf y => ?_
  blk_simp
  rw [after0_1]
  obtain ⟨r, k, rfl⟩ : ∃ (r : Fin 512) (k : Fin 2048), y = ix2 r k := ⟨y 0, y 1, eq_ix2 y⟩
  refine (out_at (iblk m c 0 t) r k).trans ?_
  have hrow : neg (iblk m c 0 t) r = fun k' => (0 : EReal) -
      (V m c main_v0 : FVec Ideal S8192x2048 .f32) (ix2 (((win0_1.blk t).view.emb (ix2 r k)) 0) k') :=
    funext fun k' => congrArg (fun e : EReal => 0 - e) (iblk_at m c t r k k')
  rw [hrow]
  unfold flat
  have hk : ix2 (((win0_1.blk t).view.emb (ix2 r k)) 0) k = (win0_1.blk t).view.emb (ix2 r k) := by
    refine funext fun a => Fin.ext ?_
    match a with
    | ⟨0, _⟩ => rfl
    | ⟨1, _⟩ =>
      show k.val = (((win0_1.blk t).view.emb (ix2 r k)) 1).val
      blk_simp [index1]
  exact congrArg (fun e => max (((0 : EReal) - (V m c main_v0 : FVec Ideal S8192x2048 .f32) e) -
    level fun k' : Fin 2048 => (0 : EReal) - (V m c main_v0 : FVec Ideal S8192x2048 .f32)
      (ix2 (((win0_1.blk t).view.emb (ix2 r k)) 0) k')) 0) hk

/-- The flat array the pipeline reads: the argument reshaped. -/
theorem V_eq (c : Dev nD) : V m c main_v0 =
    shapeCast S8192x2048 (m ((c : Thread nD τ).loc main_arg0)) shapeCasts_S2x4096x2048_S8192x2048 := by
  unfold V V0
  simp only [hostOps0, List.flatten_cons, List.flatten_nil, List.append_nil]
  after_results_simp
  rfl

/-- The result buffer after the host lines: the pipeline's array reshaped. -/
theorem W_eq (c : Dev nD) : Pipeline.afterTail₀ cfgs (dats m) 0 (V0 m) [hostOps1] c main_v2 =
    shapeCast S2x4096x2048 ((dats m 0 c).arrAt 1 (cfgs 0).N) shapeCasts_S8192x2048_S2x4096x2048 := by
  have h := Pipeline.withArrays_arr (cfgs 0).spec launch0.win.arr_inj c (V0 m c) (fun w => (dats m 0 c).arrAt w (cfgs 0).N) 1
  unfold Pipeline.afterTail₀
  simp only [hostOps1, List.flatten_cons, List.flatten_nil, List.append_nil]
  after_results_simp
  refine funext fun i => ?_
  exact congrFun (congrArg (fun A => shapeCast S2x4096x2048 A shapeCasts_S8192x2048_S2x4096x2048) h) i

/-- Reshaped, flattened row by row and reshaped back: every row negated, less its level, floored at zero. -/
theorem flat_at (x : FVec Ideal S2x4096x2048 .f32) (a : Fin 2) (b : Fin 4096) (l : Fin 2048) :
    shapeCast S2x4096x2048 (flat (shapeCast S8192x2048 x shapeCasts_S2x4096x2048_S8192x2048)) shapeCasts_S8192x2048_S2x4096x2048
      (ix3 a b l) = max ((0 - x (ix3 a b l)) - level fun k : Fin 2048 => 0 - x (ix3 a b k)) 0 := by
  pointwise [flat]

/-- The kernel's result as an array of the argument. -/
def result (x : FVec Ideal S2x4096x2048 .f32) : FVec Ideal S2x4096x2048 .f32 :=
  fun i => max ((0 - x i) - level fun k : Fin 2048 => 0 - x (ix3 (i 0) (i 1) k)) 0

/-- The result buffer after the host lines, as an array of the argument. -/
theorem out_eq_result (c : Dev nD) : Pipeline.afterTail₀ cfgs (dats m) 0 (V0 m) [hostOps1] c main_v2 =
    result (m ((c : Thread nD τ).loc main_arg0)) := by
  rw [W_eq, arr_eq, V_eq]
  funext i
  obtain ⟨a, b, l, rfl⟩ : ∃ (a : Fin 2) (b : Fin 4096) (l : Fin 2048), i = ix3 a b l := ⟨i 0, i 1, i 2, eq_ix3 i⟩
  exact flat_at _ a b l

/-- The run: the result is `result` of the argument, the argument unchanged. -/
theorem run : θ_run defs (onTc (τ := τ) (main (F := Ideal))) ⟨m, fun _ => 0, ρ⟩ (fun r => ∀ c : Dev nD,
      r.2.mem ((c.tc : Thread nD τ).loc main_v2) = result (m ((c.tc : Thread nD τ).loc main_arg0))
      ∧ r.2.mem ((c.tc : Thread nD τ).loc main_arg0) = m ((c.tc : Thread nD τ).loc main_arg0)) :=
  (θ_run defs _ _).mono (fun _ h c =>
    ⟨((h c).2 main_v2 (Pipeline.mem_restRefs_of main_v2 (by decide) (by decide))).trans (out_eq_result m c),
      ((h c).2 main_arg0 (Pipeline.mem_restRefs_of main_arg0 (by decide) (by decide))).trans (W_main_arg0 m (dats m) c)⟩)
    (run_main m ρ)

end Cert.Proof.KernelArray

end

end
-- ==== Proof.InfRow.lean ====
/- A row that holds plus infinity: the bracket stays at plus infinity, and the polishing steps alternate between minus one and
   plus infinity, so that the level ends at minus one. -/
module

public import proofs.«01_k».proof.Proof.RowFn

@[expose] public section

noncomputable section

namespace Cert.Proof.InfRow

open Finset Idealize.ShloMosaic Cert.Proof.RowFn

variable {ι : Type} [Fintype ι]

/-- A sum without minus infinity is not minus infinity. -/
theorem sum_ne_bot (s : Finset ι) (f : ι → EReal) (h : ∀ i, f i ≠ ⊥) : ∑ i ∈ s, f i ≠ ⊥ := by
  classical
  induction s using Finset.induction_on with
  | empty => simp
  | insert a s ha ih =>
    rw [sum_insert ha]
    intro he
    rcases EReal.add_eq_bot_iff.1 he with h1 | h1
    · exact h a h1
    · exact ih h1

/-- A sum that holds plus infinity and no minus infinity is plus infinity. -/
theorem sum_top (f : ι → EReal) (h : ∀ i, f i ≠ ⊥) (i : ι) (hi : f i = ⊤) : ∑ j, f j = ⊤ := by
  classical
  rw [← add_sum_erase univ f (mem_univ i), hi]
  exact EReal.top_add_of_ne_bot (sum_ne_bot _ f h)

variable (w : ι → EReal)

/-- The number of entries above a level is a number. -/
theorem count_coe (t : EReal) : ∃ n : ℕ, RowFn.count w t = ((n : ℝ) : EReal) := by
  classical
  refine ⟨(univ.filter fun i => t < w i).card, ?_⟩
  have h : ((((univ.filter fun i => t < w i).card : ℕ) : ℝ)) = ∑ i, if t < w i then (1 : ℝ) else 0 := by
    rw [← sum_filter, sum_const, nsmul_eq_mul, mul_one]
  rw [h, coe_sum]
  unfold RowFn.count
  refine sum_congr rfl fun i _ => ?_
  split <;> simp

/-- A step from plus infinity gives minus one. -/
theorem polish_top : polish w ⊤ = ((-1 : ℝ) : EReal) := by
  have h1 : total w ⊤ = 0 := sum_eq_zero fun i _ => if_neg not_top_lt
  have h2 : RowFn.count w ⊤ = 0 := sum_eq_zero fun i _ => if_neg not_top_lt
  unfold polish
  rw [h1, h2, max_eq_right zero_le_one, ← EReal.coe_one, ← EReal.coe_zero, ← EReal.coe_sub,
    Ideal.div_coe one_ne_zero, ← EReal.coe_mul]
  norm_num

variable (i : ι) (hi : w i = ⊤)
include hi

/-- A step from minus one gives plus infinity. -/
theorem polish_low : polish w ((-1 : ℝ) : EReal) = ⊤ := by
  have h1 : total w ((-1 : ℝ) : EReal) = ⊤ := by
    refine sum_top _ (fun j => ?_) i ?_
    · split
      · next hj => exact (lt_of_le_of_lt bot_le hj).ne'
      · exact EReal.zero_ne_bot
    · rw [hi, if_pos (EReal.coe_lt_top _)]
  obtain ⟨n, hn⟩ := count_coe w ((-1 : ℝ) : EReal)
  have hpos : (0 : ℝ) < max (n : ℝ) 1 := lt_of_lt_of_le one_pos (le_max_right _ _)
  unfold polish
  rw [h1, hn, ← EReal.coe_one, ← coe_max, EReal.top_sub_coe, Ideal.div_coe hpos.ne']
  exact EReal.top_mul_coe_of_pos (one_div_pos.2 hpos)

/-- The bracket stays at plus infinity. -/
theorem bracket_top (k : ℕ) : bracket w k = (⊤, ⊤) := by
  have ht : top w = ⊤ := top_le_iff.1 (hi ▸ le_top w i)
  induction k with
  | zero =>
    show (top w - 1, top w) = _
    rw [ht, ← EReal.coe_one, EReal.top_sub_coe]
  | succ k ih =>
    show halve w (bracket w k) = _
    have hm : mid ((⊤, ⊤) : EReal × EReal) = ⊤ := by
      unfold mid
      rw [half_eq]
      show ((1 / 2 : ℝ) : EReal) * (⊤ + ⊤) = ⊤
      rw [EReal.top_add_top, EReal.coe_mul_top_of_pos (by norm_num)]
    rw [ih]
    unfold halve
    rw [hm, ite_self]

/-- The level of a row that holds plus infinity is minus one. -/
theorem level_top : level w = ((-1 : ℝ) : EReal) := by
  unfold level
  rw [bracket_top w i hi 4]
  show polish w (polish w (polish w ⊤)) = _
  rw [polish_top, polish_low w i hi, polish_top]

end Cert.Proof.InfRow

end

end
-- ==== Proof.Rows.lean ====
/- The kernel's result against the reference's on rows without plus infinity: equal at settled elements and where few entries
   lie just below the threshold, and everywhere within a sixteenth of it. -/
module

public import proofs.«01_k».proof.Proof.PredEqs
public import proofs.«01_k».proof.Proof.RefRow
public import proofs.«01_k».proof.Proof.KernelArray
public import proofs.«01_k».proof.Proof.InfRow

@[expose] public section

set_option maxRecDepth 16384

noncomputable section

namespace Cert.Proof.Rows

open Finset Idealize.ShloMosaic Cert.ReferenceIdeal Cert.ReferenceIdeal.Gen Cert.Proof.RowFn Cert.Proof.Ref Cert.Proof.Pred

variable (x : FVec Ideal S2x4096x2048 .f32) (a : Fin 2) (b : Fin 4096)

/-- The number of a bit. -/
theorem number_bit (P : Prop) [Decidable P] : (((BitVec.ofBool (decide P)).toNat : ℝ) : EReal) = if P then 1 else 0 := by
  by_cases h : P <;> simp [h]

/-- Both of two bits are set exactly when their conjunction is. -/
theorem andi_iff (p q : BitVec 1) : IntOp.andi p q = 1#1 ↔ p = 1#1 ∧ q = 1#1 := by
  revert p q
  decide

/-- One of two bits is set exactly when their disjunction is. -/
theorem ori_iff (p q : BitVec 1) : IntOp.ori p q = 1#1 ↔ p = 1#1 ∨ q = 1#1 := by
  revert p q
  decide

/-- A bit not set is set when turned. -/
theorem noti_of_ne (p : BitVec 1) (h : p ≠ 1#1) : ~~~p = 1#1 := by
  revert p
  decide

/-- A row of the negated input, read through the negation. -/
theorem negf_row : (fun k : Fin 2048 => (Host.negf x (ix3 a b k) : EReal)) = row x a b := by
  funext k
  rw [negf_at]
  exact (zero_sub _).symm

/-- One step of the level at a row. -/
theorem step_at (v : FVec Ideal S2x4096x2048 .f32) (t : FVec Ideal S2x4096x1 .f32) :
    (step v t (ix3 a b (0 : Fin 1)) : EReal) =
      Ideal.div (total (fun k : Fin 2048 => (v (ix3 a b k) : EReal)) (t (ix3 a b (0 : Fin 1))) - 1)
        (RowFn.count (fun k : Fin 2048 => (v (ix3 a b k) : EReal)) (t (ix3 a b (0 : Fin 1)))) := by
  have h1 : ∀ p q : FVec Ideal S2x4096x1 .f32,
      Host.divf (subf p (broadcastInDim S2x4096x1 ![] bcast_S_S2x4096x1 (constant S_ .f32 0x3F800000#32))) q (ix3 a b (0 : Fin 1)) =
        Ideal.div ((p (ix3 a b (0 : Fin 1)) : EReal) - Ideal.ofBits .f32 0x3F800000#32) (q (ix3 a b (0 : Fin 1))) := fun _ _ => rfl
  have h2 : (Ideal.ofBits .f32 0x3F800000#32 : EReal) = 1 := by simp
  have h3 : ∀ (p : IVec S2x4096x2048 1) (k : Fin 2048),
      select p v (broadcastInDim S2x4096x2048 ![] bcast_S_S2x4096x2048 (constant S_ .f32 0x00000000#32)) (ix3 a b k) =
        Scalar.select (p (ix3 a b k)) (v (ix3 a b k) : EReal) (Ideal.ofBits .f32 0x00000000#32) := fun _ _ => rfl
  have h4 : (Ideal.ofBits .f32 0x00000000#32 : EReal) = 0 := by simp
  have h5 : ∀ (p : IVec S2x4096x2048 1) (k : Fin 2048), (uitofp (F := Ideal) .f32 p (ix3 a b k) : EReal) =
      (((p (ix3 a b k)).toNat : ℝ) : EReal) := fun _ _ => rfl
  unfold step
  rw [h1, h2, rowSum_at, rowSum_at]
  unfold total RowFn.count
  refine congrArg₂ (fun p q : EReal => Ideal.div (p - 1) q) (sum_congr rfl fun k _ => ?_) (sum_congr rfl fun k _ => ?_)
  · rw [h3, aboveBits_at, KernelRow.select_ofBool, h4]
  · rw [h5, aboveBits_at, number_bit]

/-- The bit saying a row holds no plus infinity. -/
theorem valid_iff : valid (Host.negf x) (ix3 a b (0 : Fin 1)) = 1#1 ↔ top (row x a b) < ⊤ := by
  have h1 : ∀ u : FVec Ideal S2x4096x1 .f32,
      cmpf .olt u (broadcastInDim S2x4096x1 ![] bcast_S_S2x4096x1 (constant S_ .f32 0x7F800000#32)) (ix3 a b (0 : Fin 1)) =
        BitVec.ofBool (decide ((u (ix3 a b (0 : Fin 1)) : EReal) < Ideal.ofBits .f32 0x7F800000#32)) := fun _ => rfl
  have h2 : (Ideal.ofBits .f32 0x7F800000#32 : EReal) = ⊤ := by simp [Ideal.ofBits, Ideal.ieee, -EReal.coe_mul]
  unfold valid
  rw [h1, h2, topArr_at, negf_row, ofBool_iff]

/-- A row that holds only minus infinity has the result zero throughout, the kernel's and the reference's. -/
theorem eq_of_bot (h : ¬ ⊥ < top (row x a b)) (k : Fin 2048) :
    (KernelArray.result x (ix3 a b k) : EReal) = 0 ∧ (result x (ix3 a b k) : EReal) = 0 := by
  have hw : row x a b k = ⊥ := le_bot_iff.1 ((le_top (row x a b) k).trans (not_bot_lt_iff.1 h).le)
  have hk : (KernelArray.result x (ix3 a b k) : EReal) = max (row x a b k - level (row x a b)) 0 := rfl
  rw [hk, result_at, hw, EReal.bot_sub, EReal.bot_sub]
  exact ⟨max_eq_right bot_le, max_eq_right bot_le⟩

/-- A row with a finite greatest entry has a shadow and a threshold. -/
theorem exists_data (h : ⊥ < top (row x a b) ∧ top (row x a b) < ⊤) : ∃ (z : Fin 2048 → ℝ) (m τ : ℝ),
    Shadow (row x a b) z m ∧ top (row x a b) = (m : EReal) ∧ Sparse.excess z τ = 1 ∧ m - 1 ≤ τ ∧ τ < m := by
  obtain ⟨z, m, hs, ht⟩ := exists_shadow (row x a b) h.1 h.2
  obtain ⟨τ, h1, h2, h3⟩ := Sparse.exists_threshold hs.le hs.att
  exact ⟨z, m, τ, hs, ht, h1, h2, h3⟩

/-- The kernel's result at an index. -/
theorem kernel_at (k : Fin 2048) : (KernelArray.result x (ix3 a b k) : EReal) = max (row x a b k - level (row x a b)) 0 := rfl

/-- Where the kernel's level is the threshold, the two results agree. -/
theorem eq_of_level {τ : ℝ} (h1 : level (row x a b) = (τ : EReal)) (h2 : tau x (ix3 a b (0 : Fin 1)) = (τ : EReal)) (k : Fin 2048) :
    KernelArray.result x (ix3 a b k) = result x (ix3 a b k) :=
  (kernel_at x a b k).trans ((result_at x a b k).trans (by rw [h1, h2])).symm

/-- The start level of the mask at a row. -/
theorem start_row {m τ : ℝ} (ht : top (row x a b) = (m : EReal)) (h2 : tau x (ix3 a b (0 : Fin 1)) = (τ : EReal)) :
    (startArr (Host.negf x) (tau x) (ix3 a b (0 : Fin 1)) : EReal) = (start m τ : EReal) := by
  have h16 : (Ideal.ofBits .f32 0x41800000#32 : EReal) = ((16 : ℝ) : EReal) := by
    simp [Ideal.ofBits, Ideal.ieee, -EReal.coe_mul]; norm_num
  have hinv : (Ideal.ofBits .f32 0x3D800000#32 : EReal) = ((1 / 16 : ℝ) : EReal) := by
    simp [Ideal.ofBits, Ideal.ieee, -EReal.coe_mul]; norm_num
  have hfl : ∀ r : ℝ, Ideal.liftRound Int.floor (r : EReal) = ((⌊r⌋ : ℝ) : EReal) := fun _ => rfl
  rw [startArr_at, topArr_at, negf_row, ht, h2, h16, hinv, ← EReal.coe_one, ← EReal.coe_sub, ← EReal.coe_sub, ← EReal.coe_mul, hfl,
    ← EReal.coe_mul, ← EReal.coe_add, mul_one_div]
  rfl

/-- The mask at an element: no plus infinity in its row, and the level of three steps is the threshold or reaches the element. -/
theorem mask_iff (k : Fin 2048) : Cert.On_settled.fn (F := Ideal) x (ix3 a b k) = 1#1 ↔ top (row x a b) < ⊤ ∧
    ((settledLevel x (ix3 a b (0 : Fin 1)) : EReal) = tau x (ix3 a b (0 : Fin 1)) ∨
      row x a b k ≤ settledLevel x (ix3 a b (0 : Fin 1))) := by
  have h1 : ∀ p q r : IVec S2x4096x2048 1, andi p (ori q r) (ix3 a b k) =
      IntOp.andi (p (ix3 a b k)) (IntOp.ori (q (ix3 a b k)) (r (ix3 a b k))) := fun _ _ _ => rfl
  have h2 : ∀ p q : FVec Ideal S2x4096x1 .f32, cmpf .oeq p q (ix3 a b (0 : Fin 1)) =
      BitVec.ofBool (decide ((p (ix3 a b (0 : Fin 1)) : EReal) = q (ix3 a b (0 : Fin 1)))) := fun _ _ => rfl
  have h3 : ∀ p q : FVec Ideal S2x4096x2048 .f32, cmpf .ole p q (ix3 a b k) =
      BitVec.ofBool (decide ((p (ix3 a b k) : EReal) ≤ q (ix3 a b k))) := fun _ _ => rfl
  rw [settled_eq, h1, h3, spread_at, spread_at, spreadf_at, h2, andi_iff, ori_iff, valid_iff, ofBool_iff, ofBool_iff,
    congrFun (negf_row x a b) k]

/-- The level of three steps from the mask's start level. -/
theorem settledLevel_at {z : Fin 2048 → ℝ} {m τ : ℝ} (hs : Shadow (row x a b) z m) (ht : top (row x a b) = (m : EReal))
    (hτ : Sparse.excess z τ = 1) (hm : m - 1 ≤ τ) :
    (settledLevel x (ix3 a b (0 : Fin 1)) : EReal) = (settle z (start m τ) : EReal) := by
  have hb := start_bounds hm
  have h4 := div_three hs hτ hb.1 hb.2.1 (fun s => Ideal.div (total (row x a b) s - 1) (RowFn.count (row x a b) s)) fun _ => rfl
  unfold settledLevel
  rw [step_at, step_at, step_at, negf_row, start_row x a b ht (tau_at x a b hs hτ hm)]
  exact h4

/-- At a settled element the two results agree. -/
theorem settled (i : S2x4096x2048.Idx) (h : Cert.On_settled.fn (F := Ideal) x i = 1#1) : KernelArray.result x i = result x i := by
  obtain ⟨a, b, k, rfl⟩ : ∃ (a : Fin 2) (b : Fin 4096) (k : Fin 2048), i = ix3 a b k := ⟨i 0, i 1, i 2, eq_ix3 i⟩
  rw [mask_iff] at h
  by_cases hbot : ⊥ < top (row x a b)
  swap
  · have h0 := eq_of_bot x a b hbot k
    exact h0.1.trans h0.2.symm
  obtain ⟨z, m, τ, hs, ht, hτ, hm, hlt⟩ := exists_data x a b ⟨hbot, h.1⟩
  have htau := tau_at x a b hs hτ hm
  have hb := start_bounds hm
  have h5 := settledLevel_at x a b hs ht hτ hm
  have hl := level_eq hs hτ hm hlt
  rw [h5, htau] at h
  rcases h.2 with h6 | h6
  · exact eq_of_level x a b (hl.trans h6) htau k
  · have hse := (settle_mem hτ hb.2.1).2
    have h7 : ∀ t : ℝ, settle z (start m τ) ≤ t → max (row x a b k - (t : EReal)) 0 = 0 := by
      intro t hle
      refine max_eq_right ?_
      rcases hs.hit k with hw | ⟨hw, _⟩
      · rw [hw, EReal.coe_le_coe_iff] at h6
        rw [hw, ← EReal.coe_sub, ← EReal.coe_zero, EReal.coe_le_coe_iff]
        linarith
      · rw [hw, EReal.bot_sub]
        exact bot_le
    refine (kernel_at x a b k).trans ((result_at x a b k).trans ?_).symm
    rw [hl, htau, h7 _ le_rfl, h7 _ hse]

/-- At every other element of a row without plus infinity the two results differ: the mask leaves out nothing it could hold. -/
theorem apart (k : Fin 2048) (hv : top (row x a b) < ⊤) (h : ¬ Cert.On_settled.fn (F := Ideal) x (ix3 a b k) = 1#1) :
    result x (ix3 a b k) < (KernelArray.result x (ix3 a b k) : EReal) := by
  rw [mask_iff] at h
  have hbot : ⊥ < top (row x a b) := by
    by_contra hb
    have hw : row x a b k = ⊥ := le_bot_iff.1 ((le_top (row x a b) k).trans (not_bot_lt_iff.1 hb).le)
    exact h ⟨hv, Or.inr (hw ▸ bot_le)⟩
  obtain ⟨z, m, τ, hs, ht, hτ, hm, hlt⟩ := exists_data x a b ⟨hbot, hv⟩
  have htau := tau_at x a b hs hτ hm
  have hb := start_bounds hm
  have hl := level_eq hs hτ hm hlt
  have hse := (settle_mem hτ hb.2.1).2
  rw [settledLevel_at x a b hs ht hτ hm, htau] at h
  have h1 : settle z (start m τ) < τ := lt_of_le_of_ne hse fun he => h ⟨hv, Or.inl (by rw [he])⟩
  have h2 : ¬ row x a b k ≤ (settle z (start m τ) : EReal) := fun hle => h ⟨hv, Or.inr hle⟩
  rw [result_at, kernel_at, htau, hl]
  rcases hs.hit k with hw | ⟨hw, _⟩
  · rw [hw, EReal.coe_le_coe_iff, not_le] at h2
    rw [hw, ← EReal.coe_sub, ← EReal.coe_sub, ← EReal.coe_zero, ← coe_max, ← coe_max, EReal.coe_lt_coe_iff]
    exact lt_max_of_lt_left (max_lt (by linarith) (by linarith))
  · exact absurd (hw ▸ bot_le) h2

/-- Where at most two entries lie just below the threshold, the two results agree. -/
theorem few (h : Cert.Pre_few_near.fn (F := Ideal) x = fun _ => 1#1) : KernelArray.result x = result x := by
  classical
  funext i
  obtain ⟨a, b, k, rfl⟩ : ∃ (a : Fin 2) (b : Fin 4096) (k : Fin 2048), i = ix3 a b k := ⟨i 0, i 1, i 2, eq_ix3 i⟩
  have h0 := congrFun h (ix3 a b (0 : Fin 1))
  have h2 : ∀ (v : IVec S2x4096x1 1) (n : IVec S2x4096x1 32),
      andi v (cmpi .sle n (broadcastInDim S2x4096x1 ![] bcast_S_S2x4096x1 (constantI S_ 32 2#32))) (ix3 a b (0 : Fin 1)) =
      IntOp.andi (v (ix3 a b (0 : Fin 1))) (BitVec.ofBool (decide ((n (ix3 a b (0 : Fin 1))).toInt ≤ (2#32 : BitVec 32).toInt))) :=
    fun _ _ => rfl
  rw [few_eq, h2, andi_iff, valid_iff, ofBool_iff] at h0
  by_cases hbot : ⊥ < top (row x a b)
  swap
  · have h1 := eq_of_bot x a b hbot k
    exact h1.1.trans h1.2.symm
  obtain ⟨z, m, τ, hs, ht, hτ, hm, hlt⟩ := exists_data x a b ⟨hbot, h0.1⟩
  have htau := tau_at x a b hs hτ hm
  have hb := start_bounds hm
  have hinv : (Ideal.ofBits .f32 0x3D800000#32 : EReal) = ((1 / 16 : ℝ) : EReal) := by
    simp [Ideal.ofBits, Ideal.ieee, -EReal.coe_mul]; norm_num
  have hbit : ∀ j : Fin 2048, j ∈ univ.filter (fun j => ((τ - 1 / 16 : ℝ) : EReal) < row x a b j ∧ row x a b j < (τ : EReal)) ↔
      near (Host.negf x) (tau x) (ix3 a b j) = 1#1 := by
    intro j
    rw [near_at, andi_iff, ofBool_iff, ofBool_iff, congrFun (negf_row x a b) j, htau, hinv, ← EReal.coe_sub, mem_filter]
    simp only [mem_univ, true_and]
  have hc : size (near (Host.negf x) (tau x)) (ix3 a b (0 : Fin 1)) = BitVec.ofNat 32 (univ.filter
      (fun j => ((τ - 1 / 16 : ℝ) : EReal) < row x a b j ∧ row x a b j < (τ : EReal))).card := by
    rw [size_at]
    exact SortRead.fold_count (by norm_num) (fun j => near (Host.negf x) (tau x) (ix3 a b j)) _ hbit
  have hle : (univ.filter (fun j => ((τ - 1 / 16 : ℝ) : EReal) < row x a b j ∧ row x a b j < (τ : EReal))).card ≤ 2048 := by
    simpa using card_le_univ (univ.filter (fun j => ((τ - 1 / 16 : ℝ) : EReal) < row x a b j ∧ row x a b j < (τ : EReal)))
  have h3 := h0.2
  rw [hc, toInt_small _ (by omega), show (2#32 : BitVec 32).toInt = 2 from rfl] at h3
  have h5 : settle z (start m τ) = τ := by
    refine Sparse.polish_three hτ hb.2.1 (le_trans (card_le_card fun j hj => ?_) (show _ ≤ 2 by exact_mod_cast h3))
    have hj := Sparse.mem_between.1 hj
    rw [mem_filter, eq_of_lt hs hb.1 hj.1, EReal.coe_lt_coe_iff, EReal.coe_lt_coe_iff]
    exact ⟨mem_univ _, by linarith, hj.2⟩
  exact eq_of_level x a b ((level_eq hs hτ hm hlt).trans (by rw [h5])) htau k

/-- On rows without plus infinity the kernel's result is at least the reference's and at most a sixteenth above it. -/
theorem close : Cert.Post_near_sparsemax.fn (F := Ideal) x (KernelArray.result x) = fun _ => 1#1 := by
  funext i
  obtain ⟨a, b, k, rfl⟩ : ∃ (a : Fin 2) (b : Fin 4096) (k : Fin 2048), i = ix3 a b k := ⟨i 0, i 1, i 2, eq_ix3 i⟩
  have h1 : ∀ p q : IVec S2x4096x2048 1, ori p q (ix3 a b k) = IntOp.ori (p (ix3 a b k)) (q (ix3 a b k)) := fun _ _ => rfl
  have h3 : ∀ p : IVec S2x4096x1 1, noti p (ix3 a b (0 : Fin 1)) = ~~~(p (ix3 a b (0 : Fin 1))) := fun _ => rfl
  have h2 : ∀ u v : FVec Ideal S2x4096x2048 .f32, andi (cmpf .ole u v) (cmpf .ole v (addf u
      (broadcastInDim S2x4096x2048 ![] bcast_S_S2x4096x2048 (constant S_ .f32 0x3D800000#32)))) (ix3 a b k) =
      IntOp.andi (BitVec.ofBool (decide ((u (ix3 a b k) : EReal) ≤ v (ix3 a b k))))
        (BitVec.ofBool (decide ((v (ix3 a b k) : EReal) ≤ u (ix3 a b k) + Ideal.ofBits .f32 0x3D800000#32))) := fun _ _ => rfl
  have hinv : (Ideal.ofBits .f32 0x3D800000#32 : EReal) = ((1 / 16 : ℝ) : EReal) := by
    simp [Ideal.ofBits, Ideal.ieee, -EReal.coe_mul]; norm_num
  have hpos : (0 : EReal) ≤ ((1 / 16 : ℝ) : EReal) := by rw [← EReal.coe_zero, EReal.coe_le_coe_iff]; norm_num
  rw [post_eq, h1, spread_at, h3, ori_iff, h2, andi_iff, ofBool_iff, ofBool_iff, hinv]
  by_cases hv : valid (Host.negf x) (ix3 a b (0 : Fin 1)) = 1#1
  swap
  · exact Or.inl (noti_of_ne _ hv)
  refine Or.inr ?_
  by_cases hbot : ⊥ < top (row x a b)
  swap
  · have h0 := eq_of_bot x a b hbot k
    rw [h0.1, h0.2, zero_add]
    exact ⟨le_rfl, hpos⟩
  obtain ⟨z, m, τ, hs, ht, hτ, hm, hlt⟩ := exists_data x a b ⟨hbot, (valid_iff x a b).1 hv⟩
  have htau := tau_at x a b hs hτ hm
  have hb := start_bounds hm
  have hl := level_eq hs hτ hm hlt
  have hse := settle_mem hτ hb.2.1
  rw [result_at, kernel_at, htau, hl]
  rcases hs.hit k with hw | ⟨hw, _⟩
  · rw [hw, ← EReal.coe_sub, ← EReal.coe_sub, ← EReal.coe_zero, ← coe_max, ← coe_max, ← EReal.coe_add, EReal.coe_le_coe_iff,
      EReal.coe_le_coe_iff]
    refine ⟨max_le_max (by linarith) le_rfl, max_le ?_ ?_⟩
    · have := le_max_left (z k - τ) 0
      linarith
    · have := le_max_right (z k - τ) 0
      linarith
  · rw [hw, EReal.bot_sub, EReal.bot_sub, max_eq_right bot_le, zero_add]
    exact ⟨le_rfl, hpos⟩

/-- On a row that holds plus infinity the kernel's result is what each entry has above minus one. -/
theorem inf_rows : Cert.Post_inf_rows.fn (F := Ideal) x (KernelArray.result x) = fun _ => 1#1 := by
  funext i
  obtain ⟨a, b, k, rfl⟩ : ∃ (a : Fin 2) (b : Fin 4096) (k : Fin 2048), i = ix3 a b k := ⟨i 0, i 1, i 2, eq_ix3 i⟩
  have h1 : ∀ p q : IVec S2x4096x2048 1, ori p q (ix3 a b k) = IntOp.ori (p (ix3 a b k)) (q (ix3 a b k)) := fun _ _ => rfl
  have h2 : ∀ u v : FVec Ideal S2x4096x2048 .f32, cmpf .oeq v (maximumf (addf u
      (broadcastInDim S2x4096x2048 ![] bcast_S_S2x4096x2048 (constant S_ .f32 0x3F800000#32)))
      (broadcastInDim S2x4096x2048 ![] bcast_S_S2x4096x2048 (constant S_ .f32 0x00000000#32))) (ix3 a b k) =
      BitVec.ofBool (decide ((v (ix3 a b k) : EReal) =
        max ((u (ix3 a b k) : EReal) + Ideal.ofBits .f32 0x3F800000#32) (Ideal.ofBits .f32 0x00000000#32))) := fun _ _ => rfl
  have h3 : (Ideal.ofBits .f32 0x3F800000#32 : EReal) = 1 := by simp
  have h4 : (Ideal.ofBits .f32 0x00000000#32 : EReal) = 0 := by simp
  rw [inf_eq, h1, spread_at, ori_iff, h2, h3, h4, ofBool_iff, congrFun (negf_row x a b) k, valid_iff]
  by_cases hv : top (row x a b) < ⊤
  · exact Or.inl hv
  refine Or.inr ?_
  have ht : top (row x a b) = ⊤ := not_lt_top_iff.1 hv
  obtain ⟨j, hj⟩ := exists_top (row x a b) (ht ▸ bot_lt_top)
  have hj' : row x a b j = ⊤ := hj.trans ht
  rw [kernel_at, InfRow.level_top (row x a b) j hj', EReal.coe_neg, EReal.coe_one, sub_eq_add_neg, neg_neg]

end Cert.Proof.Rows

end

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Rows
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its argument alone and has no counter to leave unset. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono (fun r h => ⟨fun c => (h c).2, sem_eq_zero_of_no_sems (by decide) r.2⟩)
    (Cert.ReferenceIdeal.Value.run m g)

/-- At settled elements the kernel's result is sparsemax. -/
theorem on_settled : Cert.algebraic_KernelIdeal_ReferenceIdeal_on_settled := by
  intro m g m' g' _ hagree
  refine ⟨fun c => KernelArray.result (m ((c.tc : Thread Cert.KernelIdeal.nD Cert.KernelIdeal.τ).loc Cert.KernelIdeal.main_arg0)), ?_, ?_⟩
  · exact (θ_run Cert.KernelIdeal.defs _ _).mono (fun r h c => ⟨fun i _ => congrFun (h c).1 i, (h c).2⟩) (KernelArray.run m g)
  · refine (θ_run Cert.ReferenceIdeal.defs _ _).mono (fun r h c => ⟨fun i hi => ?_, (h c).2⟩) (Cert.ReferenceIdeal.Value.run m' g')
    rw [(h c).1, Ref.res_eq, hagree c]
    exact (Rows.settled _ i hi).symm

/-- Where at most two entries of a row lie just below the threshold, the kernel's result is sparsemax. -/
theorem pre_few : Cert.algebraic_KernelIdeal_ReferenceIdeal_pre_few_near := by
  intro m g m' g' hpre hagree
  refine ⟨fun c => KernelArray.result (m ((c.tc : Thread Cert.KernelIdeal.nD Cert.KernelIdeal.τ).loc Cert.KernelIdeal.main_arg0)),
    KernelArray.run m g, ?_⟩
  refine (θ_run Cert.ReferenceIdeal.defs _ _).mono (fun r h c => ⟨?_, (h c).2⟩) (Cert.ReferenceIdeal.Value.run m' g')
  rw [(h c).1, Ref.res_eq, hagree c]
  exact (Rows.few _ (hpre c)).symm

/-- On rows without plus infinity the kernel's result is within a sixteenth above sparsemax. -/
theorem near : Cert.holds_KernelIdeal_near_sparsemax := by
  intro m g _
  refine (θ_run Cert.KernelIdeal.defs _ _).mono (fun r h c => ⟨(h c).2, ?_⟩) (KernelArray.run m g)
  rw [(h c).1]
  exact Rows.close _

/-- On rows that hold plus infinity the kernel's result is what each entry has above minus one. -/
theorem inf_rows : Cert.holds_KernelIdeal_inf_rows := by
  intro m g _
  refine (θ_run Cert.KernelIdeal.defs _ _).mono (fun r h c => ⟨(h c).2, ?_⟩) (KernelArray.run m g)
  rw [(h c).1]
  exact Rows.inf_rows _

/-- Every claim. -/
theorem claim : Cert.Claim :=
  ⟨Cert.Kernel.Gen.facts, Cert.KernelIdeal.Gen.facts, Cert.ReferenceIdeal.Gen.facts, Pred.factsNear, Pred.factsPost, Pred.factsInf,
    Pred.factsSettled, fun m g _ => Cert.Kernel.Gen.frame m g, fun m g _ => Cert.KernelIdeal.Gen.frame m g,
    fun m g _ => Cert.KernelIdeal.Gen.frame m g, fun m g _ => reference_frame m g,
    fun m g _ => reference_frame m g, trivial, on_settled, pre_few, near, inf_rows⟩

end Cert.Proof

end
